-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 128]⟩ ⟨2, ![128, 128]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S16x128 : Shape := ⟨2, ![16, 128]⟩
abbrev S2x8x128x128 : Shape := ⟨4, ![2, 8, 128, 128]⟩
abbrev S8x16x128 : Shape := ⟨3, ![8, 16, 128]⟩
abbrev S3x8 : Shape := ⟨2, ![3, 8]⟩
abbrev S_ : Shape := ⟨0, ![]⟩
abbrev S1x1x128x128 : Shape := ⟨4, ![1, 1, 128, 128]⟩
abbrev S1x1 : Shape := ⟨2, ![1, 1]⟩
abbrev S1x8x128x128 : Shape := ⟨4, ![1, 8, 128, 128]⟩
abbrev S8x128x128 : Shape := ⟨3, ![8, 128, 128]⟩
abbrev S1x16x128 : Shape := ⟨3, ![1, 16, 128]⟩
abbrev S7x16x128 : Shape := ⟨3, ![7, 16, 128]⟩

abbrev nBuf : Space → Nat
  | .hbm => 8
  | .vmem => 11
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S256x128, .bf16⟩
  | .hbm, ⟨5, _⟩ => ⟨S256x128, .bf16⟩
  | .hbm, ⟨6, _⟩ => ⟨S256x128, .bf16⟩
  | .hbm, ⟨7, _⟩ => ⟨S16x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S16x128, .f32⟩
  | .local _ .vmem, ⟨8, _⟩ => ⟨S2x8x128x128, .bf16⟩
  | .local _ .vmem, ⟨9, _⟩ => ⟨S8x16x128, .bf16⟩
  | .local _ .vmem, ⟨10, _⟩ => ⟨S128x128, .bf16⟩
  | _, _ => ⟨S128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_75 : BitVec 32 := 1#32
  let v110 : BitVec 32 := Scalar.addi v2 c1_i32_75
  let c8_i32_76 : BitVec 32 := 8#32
  let c0_i32_77 : BitVec 32 := 0#32
  let v111 : BitVec 1 := Scalar.cmpi .eq c8_i32_76 c0_i32_77
  let c1_i32_78 : BitVec 32 := 1#32
  let v112 : BitVec 32 := Scalar.select v111 c1_i32_78 c8_i32_76
  let v113 : BitVec 32 := Scalar.remsi v110 v112
  let c0_i32_80 : BitVec 32 := 0#32
  let v115 : BitVec 1 := Scalar.cmpi .slt v113 c0_i32_80
  let c0_i32_81 : BitVec 32 := 0#32
  let v116 : BitVec 1 := Scalar.cmpi .slt v112 c0_i32_81
  let v117 : BitVec 1 := Scalar.xori v115 v116
  let c0_i32_79 : BitVec 32 := 0#32
  let v114 : BitVec 1 := Scalar.cmpi .ne v113 c0_i32_79
  let v118 : BitVec 1 := Scalar.andi v117 v114
  let v119 : BitVec 32 := Scalar.addi v113 v112
  let v120 : BitVec 32 := Scalar.select v118 v119 v113
  let c1_i32_90 : BitVec 32 := 1#32
  let v121 : BitVec 32 := Scalar.muli v120 c1_i32_90
  let v122 : BitVec 32 := Scalar.addi c0_i32_91 v121
  v122.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_96 : BitVec 32 := 2#32
  let v131 : BitVec 32 := Scalar.addi v2 c2_i32_96
  let c8_i32_97 : BitVec 32 := 8#32
  let c0_i32_98 : BitVec 32 := 0#32
  let v132 : BitVec 1 := Scalar.cmpi .eq c8_i32_97 c0_i32_98
  let c1_i32_99 : BitVec 32 := 1#32
  let v133 : BitVec 32 := Scalar.select v132 c1_i32_99 c8_i32_97
  let v134 : BitVec 32 := Scalar.remsi v131 v133
  let c0_i32_101 : BitVec 32 := 0#32
  let v136 : BitVec 1 := Scalar.cmpi .slt v134 c0_i32_101
  let c0_i32_102 : BitVec 32 := 0#32
  let v137 : BitVec 1 := Scalar.cmpi .slt v133 c0_i32_102
  let v138 : BitVec 1 := Scalar.xori v136 v137
  let c0_i32_100 : BitVec 32 := 0#32
  let v135 : BitVec 1 := Scalar.cmpi .ne v134 c0_i32_100
  let v139 : BitVec 1 := Scalar.andi v138 v135
  let v140 : BitVec 32 := Scalar.addi v134 v133
  let v141 : BitVec 32 := Scalar.select v139 v140 v134
  let c1_i32_111 : BitVec 32 := 1#32
  let v142 : BitVec 32 := Scalar.muli v141 c1_i32_111
  let v143 : BitVec 32 := Scalar.addi c0_i32_112 v142
  v143.toNat
def k0_dev10 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_117 : BitVec 32 := 3#32
  let v152 : BitVec 32 := Scalar.addi v2 c3_i32_117
  let c8_i32_118 : BitVec 32 := 8#32
  let c0_i32_119 : BitVec 32 := 0#32
  let v153 : BitVec 1 := Scalar.cmpi .eq c8_i32_118 c0_i32_119
  let c1_i32_120 : BitVec 32 := 1#32
  let v154 : BitVec 32 := Scalar.select v153 c1_i32_120 c8_i32_118
  let v155 : BitVec 32 := Scalar.remsi v152 v154
  let c0_i32_122 : BitVec 32 := 0#32
  let v157 : BitVec 1 := Scalar.cmpi .slt v155 c0_i32_122
  let c0_i32_123 : BitVec 32 := 0#32
  let v158 : BitVec 1 := Scalar.cmpi .slt v154 c0_i32_123
  let v159 : BitVec 1 := Scalar.xori v157 v158
  let c0_i32_121 : BitVec 32 := 0#32
  let v156 : BitVec 1 := Scalar.cmpi .ne v155 c0_i32_121
  let v160 : BitVec 1 := Scalar.andi v159 v156
  let v161 : BitVec 32 := Scalar.addi v155 v154
  let v162 : BitVec 32 := Scalar.select v160 v161 v155
  let c1_i32_132 : BitVec 32 := 1#32
  let v163 : BitVec 32 := Scalar.muli v162 c1_i32_132
  let v164 : BitVec 32 := Scalar.addi c0_i32_133 v163
  v164.toNat
def k0_dev11 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_138 : BitVec 32 := 4#32
  let v173 : BitVec 32 := Scalar.addi v2 c4_i32_138
  let c8_i32_139 : BitVec 32 := 8#32
  let c0_i32_140 : BitVec 32 := 0#32
  let v174 : BitVec 1 := Scalar.cmpi .eq c8_i32_139 c0_i32_140
  let c1_i32_141 : BitVec 32 := 1#32
  let v175 : BitVec 32 := Scalar.select v174 c1_i32_141 c8_i32_139
  let v176 : BitVec 32 := Scalar.remsi v173 v175
  let c0_i32_143 : BitVec 32 := 0#32
  let v178 : BitVec 1 := Scalar.cmpi .slt v176 c0_i32_143
  let c0_i32_144 : BitVec 32 := 0#32
  let v179 : BitVec 1 := Scalar.cmpi .slt v175 c0_i32_144
  let v180 : BitVec 1 := Scalar.xori v178 v179
  let c0_i32_142 : BitVec 32 := 0#32
  let v177 : BitVec 1 := Scalar.cmpi .ne v176 c0_i32_142
  let v181 : BitVec 1 := Scalar.andi v180 v177
  let v182 : BitVec 32 := Scalar.addi v176 v175
  let v183 : BitVec 32 := Scalar.select v181 v182 v176
  let c1_i32_153 : BitVec 32 := 1#32
  let v184 : BitVec 32 := Scalar.muli v183 c1_i32_153
  let v185 : BitVec 32 := Scalar.addi c0_i32_154 v184
  v185.toNat
def k0_dev12 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_159 : BitVec 32 := 5#32
  let v194 : BitVec 32 := Scalar.addi v2 c5_i32_159
  let c8_i32_160 : BitVec 32 := 8#32
  let c0_i32_161 : BitVec 32 := 0#32
  let v195 : BitVec 1 := Scalar.cmpi .eq c8_i32_160 c0_i32_161
  let c1_i32_162 : BitVec 32 := 1#32
  let v196 : BitVec 32 := Scalar.select v195 c1_i32_162 c8_i32_160
  let v197 : BitVec 32 := Scalar.remsi v194 v196
  let c0_i32_164 : BitVec 32 := 0#32
  let v199 : BitVec 1 := Scalar.cmpi .slt v197 c0_i32_164
  let c0_i32_165 : BitVec 32 := 0#32
  let v200 : BitVec 1 := Scalar.cmpi .slt v196 c0_i32_165
  let v201 : BitVec 1 := Scalar.xori v199 v200
  let c0_i32_163 : BitVec 32 := 0#32
  let v198 : BitVec 1 := Scalar.cmpi .ne v197 c0_i32_163
  let v202 : BitVec 1 := Scalar.andi v201 v198
  let v203 : BitVec 32 := Scalar.addi v197 v196
  let v204 : BitVec 32 := Scalar.select v202 v203 v197
  let c1_i32_174 : BitVec 32 := 1#32
  let v205 : BitVec 32 := Scalar.muli v204 c1_i32_174
  let v206 : BitVec 32 := Scalar.addi c0_i32_175 v205
  v206.toNat
def k0_dev13 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_180 : BitVec 32 := 6#32
  let v215 : BitVec 32 := Scalar.addi v2 c6_i32_180
  let c8_i32_181 : BitVec 32 := 8#32
  let c0_i32_182 : BitVec 32 := 0#32
  let v216 : BitVec 1 := Scalar.cmpi .eq c8_i32_181 c0_i32_182
  let c1_i32_183 : BitVec 32 := 1#32
  let v217 : BitVec 32 := Scalar.select v216 c1_i32_183 c8_i32_181
  let v218 : BitVec 32 := Scalar.remsi v215 v217
  let c0_i32_185 : BitVec 32 := 0#32
  let v220 : BitVec 1 := Scalar.cmpi .slt v218 c0_i32_185
  let c0_i32_186 : BitVec 32 := 0#32
  let v221 : BitVec 1 := Scalar.cmpi .slt v217 c0_i32_186
  let v222 : BitVec 1 := Scalar.xori v220 v221
  let c0_i32_184 : BitVec 32 := 0#32
  let v219 : BitVec 1 := Scalar.cmpi .ne v218 c0_i32_184
  let v223 : BitVec 1 := Scalar.andi v222 v219
  let v224 : BitVec 32 := Scalar.addi v218 v217
  let v225 : BitVec 32 := Scalar.select v223 v224 v218
  let c1_i32_195 : BitVec 32 := 1#32
  let v226 : BitVec 32 := Scalar.muli v225 c1_i32_195
  let v227 : BitVec 32 := Scalar.addi c0_i32_196 v226
  v227.toNat
def k0_dev14 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_201 : BitVec 32 := 7#32
  let v236 : BitVec 32 := Scalar.addi v2 c7_i32_201
  let c8_i32_202 : BitVec 32 := 8#32
  let c0_i32_203 : BitVec 32 := 0#32
  let v237 : BitVec 1 := Scalar.cmpi .eq c8_i32_202 c0_i32_203
  let c1_i32_204 : BitVec 32 := 1#32
  let v238 : BitVec 32 := Scalar.select v237 c1_i32_204 c8_i32_202
  let v239 : BitVec 32 := Scalar.remsi v236 v238
  let c0_i32_206 : BitVec 32 := 0#32
  let v241 : BitVec 1 := Scalar.cmpi .slt v239 c0_i32_206
  let c0_i32_207 : BitVec 32 := 0#32
  let v242 : BitVec 1 := Scalar.cmpi .slt v238 c0_i32_207
  let v243 : BitVec 1 := Scalar.xori v241 v242
  let c0_i32_205 : BitVec 32 := 0#32
  let v240 : BitVec 1 := Scalar.cmpi .ne v239 c0_i32_205
  let v244 : BitVec 1 := Scalar.andi v243 v240
  let v245 : BitVec 32 := Scalar.addi v239 v238
  let v246 : BitVec 32 := Scalar.select v244 v245 v239
  let c1_i32_216 : BitVec 32 := 1#32
  let v247 : BitVec 32 := Scalar.muli v246 c1_i32_216
  let v248 : BitVec 32 := Scalar.addi c0_i32_217 v247
  v248.toNat
def k0_dev15 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_426 : BitVec 32 := 1#32
  let v373 : BitVec 32 := Scalar.addi v2 c1_i32_426
  let c8_i32_427 : BitVec 32 := 8#32
  let c0_i32_428 : BitVec 32 := 0#32
  let v374 : BitVec 1 := Scalar.cmpi .eq c8_i32_427 c0_i32_428
  let c1_i32_429 : BitVec 32 := 1#32
  let v375 : BitVec 32 := Scalar.select v374 c1_i32_429 c8_i32_427
  let v376 : BitVec 32 := Scalar.remsi v373 v375
  let c0_i32_431 : BitVec 32 := 0#32
  let v378 : BitVec 1 := Scalar.cmpi .slt v376 c0_i32_431
  let c0_i32_432 : BitVec 32 := 0#32
  let v379 : BitVec 1 := Scalar.cmpi .slt v375 c0_i32_432
  let v380 : BitVec 1 := Scalar.xori v378 v379
  let c0_i32_430 : BitVec 32 := 0#32
  let v377 : BitVec 1 := Scalar.cmpi .ne v376 c0_i32_430
  let v381 : BitVec 1 := Scalar.andi v380 v377
  let v382 : BitVec 32 := Scalar.addi v376 v375
  let v383 : BitVec 32 := Scalar.select v381 v382 v376
  let c1_i32_441 : BitVec 32 := 1#32
  let v384 : BitVec 32 := Scalar.muli v383 c1_i32_441
  let v385 : BitVec 32 := Scalar.addi c0_i32_442 v384
  v385.toNat
def k0_dev16 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_447 : BitVec 32 := 2#32
  let v394 : BitVec 32 := Scalar.addi v2 c2_i32_447
  let c8_i32_448 : BitVec 32 := 8#32
  let c0_i32_449 : BitVec 32 := 0#32
  let v395 : BitVec 1 := Scalar.cmpi .eq c8_i32_448 c0_i32_449
  let c1_i32_450 : BitVec 32 := 1#32
  let v396 : BitVec 32 := Scalar.select v395 c1_i32_450 c8_i32_448
  let v397 : BitVec 32 := Scalar.remsi v394 v396
  let c0_i32_452 : BitVec 32 := 0#32
  let v399 : BitVec 1 := Scalar.cmpi .slt v397 c0_i32_452
  let c0_i32_453 : BitVec 32 := 0#32
  let v400 : BitVec 1 := Scalar.cmpi .slt v396 c0_i32_453
  let v401 : BitVec 1 := Scalar.xori v399 v400
  let c0_i32_451 : BitVec 32 := 0#32
  let v398 : BitVec 1 := Scalar.cmpi .ne v397 c0_i32_451
  let v402 : BitVec 1 := Scalar.andi v401 v398
  let v403 : BitVec 32 := Scalar.addi v397 v396
  let v404 : BitVec 32 := Scalar.select v402 v403 v397
  let c1_i32_462 : BitVec 32 := 1#32
  let v405 : BitVec 32 := Scalar.muli v404 c1_i32_462
  let v406 : BitVec 32 := Scalar.addi c0_i32_463 v405
  v406.toNat
def k0_dev17 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_468 : BitVec 32 := 3#32
  let v415 : BitVec 32 := Scalar.addi v2 c3_i32_468
  let c8_i32_469 : BitVec 32 := 8#32
  let c0_i32_470 : BitVec 32 := 0#32
  let v416 : BitVec 1 := Scalar.cmpi .eq c8_i32_469 c0_i32_470
  let c1_i32_471 : BitVec 32 := 1#32
  let v417 : BitVec 32 := Scalar.select v416 c1_i32_471 c8_i32_469
  let v418 : BitVec 32 := Scalar.remsi v415 v417
  let c0_i32_473 : BitVec 32 := 0#32
  let v420 : BitVec 1 := Scalar.cmpi .slt v418 c0_i32_473
  let c0_i32_474 : BitVec 32 := 0#32
  let v421 : BitVec 1 := Scalar.cmpi .slt v417 c0_i32_474
  let v422 : BitVec 1 := Scalar.xori v420 v421
  let c0_i32_472 : BitVec 32 := 0#32
  let v419 : BitVec 1 := Scalar.cmpi .ne v418 c0_i32_472
  let v423 : BitVec 1 := Scalar.andi v422 v419
  let v424 : BitVec 32 := Scalar.addi v418 v417
  let v425 : BitVec 32 := Scalar.select v423 v424 v418
  let c1_i32_483 : BitVec 32 := 1#32
  let v426 : BitVec 32 := Scalar.muli v425 c1_i32_483
  let v427 : BitVec 32 := Scalar.addi c0_i32_484 v426
  v427.toNat
def k0_dev18 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_489 : BitVec 32 := 4#32
  let v436 : BitVec 32 := Scalar.addi v2 c4_i32_489
  let c8_i32_490 : BitVec 32 := 8#32
  let c0_i32_491 : BitVec 32 := 0#32
  let v437 : BitVec 1 := Scalar.cmpi .eq c8_i32_490 c0_i32_491
  let c1_i32_492 : BitVec 32 := 1#32
  let v438 : BitVec 32 := Scalar.select v437 c1_i32_492 c8_i32_490
  let v439 : BitVec 32 := Scalar.remsi v436 v438
  let c0_i32_494 : BitVec 32 := 0#32
  let v441 : BitVec 1 := Scalar.cmpi .slt v439 c0_i32_494
  let c0_i32_495 : BitVec 32 := 0#32
  let v442 : BitVec 1 := Scalar.cmpi .slt v438 c0_i32_495
  let v443 : BitVec 1 := Scalar.xori v441 v442
  let c0_i32_493 : BitVec 32 := 0#32
  let v440 : BitVec 1 := Scalar.cmpi .ne v439 c0_i32_493
  let v444 : BitVec 1 := Scalar.andi v443 v440
  let v445 : BitVec 32 := Scalar.addi v439 v438
  let v446 : BitVec 32 := Scalar.select v444 v445 v439
  let c1_i32_504 : BitVec 32 := 1#32
  let v447 : BitVec 32 := Scalar.muli v446 c1_i32_504
  let v448 : BitVec 32 := Scalar.addi c0_i32_505 v447
  v448.toNat
def k0_dev19 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_510 : BitVec 32 := 5#32
  let v457 : BitVec 32 := Scalar.addi v2 c5_i32_510
  let c8_i32_511 : BitVec 32 := 8#32
  let c0_i32_512 : BitVec 32 := 0#32
  let v458 : BitVec 1 := Scalar.cmpi .eq c8_i32_511 c0_i32_512
  let c1_i32_513 : BitVec 32 := 1#32
  let v459 : BitVec 32 := Scalar.select v458 c1_i32_513 c8_i32_511
  let v460 : BitVec 32 := Scalar.remsi v457 v459
  let c0_i32_515 : BitVec 32 := 0#32
  let v462 : BitVec 1 := Scalar.cmpi .slt v460 c0_i32_515
  let c0_i32_516 : BitVec 32 := 0#32
  let v463 : BitVec 1 := Scalar.cmpi .slt v459 c0_i32_516
  let v464 : BitVec 1 := Scalar.xori v462 v463
  let c0_i32_514 : BitVec 32 := 0#32
  let v461 : BitVec 1 := Scalar.cmpi .ne v460 c0_i32_514
  let v465 : BitVec 1 := Scalar.andi v464 v461
  let v466 : BitVec 32 := Scalar.addi v460 v459
  let v467 : BitVec 32 := Scalar.select v465 v466 v460
  let c1_i32_525 : BitVec 32 := 1#32
  let v468 : BitVec 32 := Scalar.muli v467 c1_i32_525
  let v469 : BitVec 32 := Scalar.addi c0_i32_526 v468
  v469.toNat
def k0_dev20 (d0 : Dev nD) : Nat :=
  let c0_i32_547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_531 : BitVec 32 := 6#32
  let v478 : BitVec 32 := Scalar.addi v2 c6_i32_531
  let c8_i32_532 : BitVec 32 := 8#32
  let c0_i32_533 : BitVec 32 := 0#32
  let v479 : BitVec 1 := Scalar.cmpi .eq c8_i32_532 c0_i32_533
  let c1_i32_534 : BitVec 32 := 1#32
  let v480 : BitVec 32 := Scalar.select v479 c1_i32_534 c8_i32_532
  let v481 : BitVec 32 := Scalar.remsi v478 v480
  let c0_i32_536 : BitVec 32 := 0#32
  let v483 : BitVec 1 := Scalar.cmpi .slt v481 c0_i32_536
  let c0_i32_537 : BitVec 32 := 0#32
  let v484 : BitVec 1 := Scalar.cmpi .slt v480 c0_i32_537
  let v485 : BitVec 1 := Scalar.xori v483 v484
  let c0_i32_535 : BitVec 32 := 0#32
  let v482 : BitVec 1 := Scalar.cmpi .ne v481 c0_i32_535
  let v486 : BitVec 1 := Scalar.andi v485 v482
  let v487 : BitVec 32 := Scalar.addi v481 v480
  let v488 : BitVec 32 := Scalar.select v486 v487 v481
  let c1_i32_546 : BitVec 32 := 1#32
  let v489 : BitVec 32 := Scalar.muli v488 c1_i32_546
  let v490 : BitVec 32 := Scalar.addi c0_i32_547 v489
  v490.toNat
def k0_dev21 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_552 : BitVec 32 := 7#32
  let v499 : BitVec 32 := Scalar.addi v2 c7_i32_552
  let c8_i32_553 : BitVec 32 := 8#32
  let c0_i32_554 : BitVec 32 := 0#32
  let v500 : BitVec 1 := Scalar.cmpi .eq c8_i32_553 c0_i32_554
  let c1_i32_555 : BitVec 32 := 1#32
  let v501 : BitVec 32 := Scalar.select v500 c1_i32_555 c8_i32_553
  let v502 : BitVec 32 := Scalar.remsi v499 v501
  let c0_i32_557 : BitVec 32 := 0#32
  let v504 : BitVec 1 := Scalar.cmpi .slt v502 c0_i32_557
  let c0_i32_558 : BitVec 32 := 0#32
  let v505 : BitVec 1 := Scalar.cmpi .slt v501 c0_i32_558
  let v506 : BitVec 1 := Scalar.xori v504 v505
  let c0_i32_556 : BitVec 32 := 0#32
  let v503 : BitVec 1 := Scalar.cmpi .ne v502 c0_i32_556
  let v507 : BitVec 1 := Scalar.andi v506 v503
  let v508 : BitVec 32 := Scalar.addi v502 v501
  let v509 : BitVec 32 := Scalar.select v507 v508 v502
  let c1_i32_567 : BitVec 32 := 1#32
  let v510 : BitVec 32 := Scalar.muli v509 c1_i32_567
  let v511 : BitVec 32 := Scalar.addi c0_i32_568 v510
  v511.toNat
def k0_off1 (d0 : Dev nD) (c1_i32_776 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v636 : BitVec 32 := Scalar.addi v2 c1_i32_776
  let c8_i32_777 : BitVec 32 := 8#32
  let c0_i32_778 : BitVec 32 := 0#32
  let v637 : BitVec 1 := Scalar.cmpi .eq c8_i32_777 c0_i32_778
  let c1_i32_779 : BitVec 32 := 1#32
  let v638 : BitVec 32 := Scalar.select v637 c1_i32_779 c8_i32_777
  let v639 : BitVec 32 := Scalar.remsi v636 v638
  let c0_i32_781 : BitVec 32 := 0#32
  let v641 : BitVec 1 := Scalar.cmpi .slt v639 c0_i32_781
  let c0_i32_782 : BitVec 32 := 0#32
  let v642 : BitVec 1 := Scalar.cmpi .slt v638 c0_i32_782
  let v643 : BitVec 1 := Scalar.xori v641 v642
  let c0_i32_780 : BitVec 32 := 0#32
  let v640 : BitVec 1 := Scalar.cmpi .ne v639 c0_i32_780
  let v644 : BitVec 1 := Scalar.andi v643 v640
  let v645 : BitVec 32 := Scalar.addi v639 v638
  let v646 : BitVec 32 := Scalar.select v644 v645 v639
  let c16_i32 : BitVec 32 := 16#32
  let v647 : BitVec 32 := Scalar.muli v646 c16_i32
  let c0_i32_792 : BitVec 32 := 0#32
  ![v647.toNat, 0]
def k0_dev22 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_776 : BitVec 32 := 1#32
  let v636 : BitVec 32 := Scalar.addi v2 c1_i32_776
  let c8_i32_777 : BitVec 32 := 8#32
  let c0_i32_778 : BitVec 32 := 0#32
  let v637 : BitVec 1 := Scalar.cmpi .eq c8_i32_777 c0_i32_778
  let c1_i32_779 : BitVec 32 := 1#32
  let v638 : BitVec 32 := Scalar.select v637 c1_i32_779 c8_i32_777
  let v639 : BitVec 32 := Scalar.remsi v636 v638
  let c0_i32_781 : BitVec 32 := 0#32
  let v641 : BitVec 1 := Scalar.cmpi .slt v639 c0_i32_781
  let c0_i32_782 : BitVec 32 := 0#32
  let v642 : BitVec 1 := Scalar.cmpi .slt v638 c0_i32_782
  let v643 : BitVec 1 := Scalar.xori v641 v642
  let c0_i32_780 : BitVec 32 := 0#32
  let v640 : BitVec 1 := Scalar.cmpi .ne v639 c0_i32_780
  let v644 : BitVec 1 := Scalar.andi v643 v640
  let v645 : BitVec 32 := Scalar.addi v639 v638
  let v646 : BitVec 32 := Scalar.select v644 v645 v639
  let c1_i32_788 : BitVec 32 := 1#32
  let v648 : BitVec 32 := Scalar.muli v646 c1_i32_788
  let v649 : BitVec 32 := Scalar.addi c0_i32_789 v648
  v649.toNat
def k0_dev23 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_793 : BitVec 32 := 2#32
  let v657 : BitVec 32 := Scalar.addi v2 c2_i32_793
  let c8_i32_794 : BitVec 32 := 8#32
  let c0_i32_795 : BitVec 32 := 0#32
  let v658 : BitVec 1 := Scalar.cmpi .eq c8_i32_794 c0_i32_795
  let c1_i32_796 : BitVec 32 := 1#32
  let v659 : BitVec 32 := Scalar.select v658 c1_i32_796 c8_i32_794
  let v660 : BitVec 32 := Scalar.remsi v657 v659
  let c0_i32_798 : BitVec 32 := 0#32
  let v662 : BitVec 1 := Scalar.cmpi .slt v660 c0_i32_798
  let c0_i32_799 : BitVec 32 := 0#32
  let v663 : BitVec 1 := Scalar.cmpi .slt v659 c0_i32_799
  let v664 : BitVec 1 := Scalar.xori v662 v663
  let c0_i32_797 : BitVec 32 := 0#32
  let v661 : BitVec 1 := Scalar.cmpi .ne v660 c0_i32_797
  let v665 : BitVec 1 := Scalar.andi v664 v661
  let v666 : BitVec 32 := Scalar.addi v660 v659
  let v667 : BitVec 32 := Scalar.select v665 v666 v660
  let c1_i32_806 : BitVec 32 := 1#32
  let v669 : BitVec 32 := Scalar.muli v667 c1_i32_806
  let v670 : BitVec 32 := Scalar.addi c0_i32_807 v669
  v670.toNat
def k0_dev24 (d0 : Dev nD) : Nat :=
  let c0_i32_825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_811 : BitVec 32 := 3#32
  let v678 : BitVec 32 := Scalar.addi v2 c3_i32_811
  let c8_i32_812 : BitVec 32 := 8#32
  let c0_i32_813 : BitVec 32 := 0#32
  let v679 : BitVec 1 := Scalar.cmpi .eq c8_i32_812 c0_i32_813
  let c1_i32_814 : BitVec 32 := 1#32
  let v680 : BitVec 32 := Scalar.select v679 c1_i32_814 c8_i32_812
  let v681 : BitVec 32 := Scalar.remsi v678 v680
  let c0_i32_816 : BitVec 32 := 0#32
  let v683 : BitVec 1 := Scalar.cmpi .slt v681 c0_i32_816
  let c0_i32_817 : BitVec 32 := 0#32
  let v684 : BitVec 1 := Scalar.cmpi .slt v680 c0_i32_817
  let v685 : BitVec 1 := Scalar.xori v683 v684
  let c0_i32_815 : BitVec 32 := 0#32
  let v682 : BitVec 1 := Scalar.cmpi .ne v681 c0_i32_815
  let v686 : BitVec 1 := Scalar.andi v685 v682
  let v687 : BitVec 32 := Scalar.addi v681 v680
  let v688 : BitVec 32 := Scalar.select v686 v687 v681
  let c1_i32_824 : BitVec 32 := 1#32
  let v690 : BitVec 32 := Scalar.muli v688 c1_i32_824
  let v691 : BitVec 32 := Scalar.addi c0_i32_825 v690
  v691.toNat
def k0_dev25 (d0 : Dev nD) : Nat :=
  let c0_i32_843 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_829 : BitVec 32 := 4#32
  let v699 : BitVec 32 := Scalar.addi v2 c4_i32_829
  let c8_i32_830 : BitVec 32 := 8#32
  let c0_i32_831 : BitVec 32 := 0#32
  let v700 : BitVec 1 := Scalar.cmpi .eq c8_i32_830 c0_i32_831
  let c1_i32_832 : BitVec 32 := 1#32
  let v701 : BitVec 32 := Scalar.select v700 c1_i32_832 c8_i32_830
  let v702 : BitVec 32 := Scalar.remsi v699 v701
  let c0_i32_834 : BitVec 32 := 0#32
  let v704 : BitVec 1 := Scalar.cmpi .slt v702 c0_i32_834
  let c0_i32_835 : BitVec 32 := 0#32
  let v705 : BitVec 1 := Scalar.cmpi .slt v701 c0_i32_835
  let v706 : BitVec 1 := Scalar.xori v704 v705
  let c0_i32_833 : BitVec 32 := 0#32
  let v703 : BitVec 1 := Scalar.cmpi .ne v702 c0_i32_833
  let v707 : BitVec 1 := Scalar.andi v706 v703
  let v708 : BitVec 32 := Scalar.addi v702 v701
  let v709 : BitVec 32 := Scalar.select v707 v708 v702
  let c1_i32_842 : BitVec 32 := 1#32
  let v711 : BitVec 32 := Scalar.muli v709 c1_i32_842
  let v712 : BitVec 32 := Scalar.addi c0_i32_843 v711
  v712.toNat
def k0_dev26 (d0 : Dev nD) : Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_847 : BitVec 32 := 5#32
  let v720 : BitVec 32 := Scalar.addi v2 c5_i32_847
  let c8_i32_848 : BitVec 32 := 8#32
  let c0_i32_849 : BitVec 32 := 0#32
  let v721 : BitVec 1 := Scalar.cmpi .eq c8_i32_848 c0_i32_849
  let c1_i32_850 : BitVec 32 := 1#32
  let v722 : BitVec 32 := Scalar.select v721 c1_i32_850 c8_i32_848
  let v723 : BitVec 32 := Scalar.remsi v720 v722
  let c0_i32_852 : BitVec 32 := 0#32
  let v725 : BitVec 1 := Scalar.cmpi .slt v723 c0_i32_852
  let c0_i32_853 : BitVec 32 := 0#32
  let v726 : BitVec 1 := Scalar.cmpi .slt v722 c0_i32_853
  let v727 : BitVec 1 := Scalar.xori v725 v726
  let c0_i32_851 : BitVec 32 := 0#32
  let v724 : BitVec 1 := Scalar.cmpi .ne v723 c0_i32_851
  let v728 : BitVec 1 := Scalar.andi v727 v724
  let v729 : BitVec 32 := Scalar.addi v723 v722
  let v730 : BitVec 32 := Scalar.select v728 v729 v723
  let c1_i32_860 : BitVec 32 := 1#32
  let v732 : BitVec 32 := Scalar.muli v730 c1_i32_860
  let v733 : BitVec 32 := Scalar.addi c0_i32_861 v732
  v733.toNat
def k0_dev27 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_865 : BitVec 32 := 6#32
  let v741 : BitVec 32 := Scalar.addi v2 c6_i32_865
  let c8_i32_866 : BitVec 32 := 8#32
  let c0_i32_867 : BitVec 32 := 0#32
  let v742 : BitVec 1 := Scalar.cmpi .eq c8_i32_866 c0_i32_867
  let c1_i32_868 : BitVec 32 := 1#32
  let v743 : BitVec 32 := Scalar.select v742 c1_i32_868 c8_i32_866
  let v744 : BitVec 32 := Scalar.remsi v741 v743
  let c0_i32_870 : BitVec 32 := 0#32
  let v746 : BitVec 1 := Scalar.cmpi .slt v744 c0_i32_870
  let c0_i32_871 : BitVec 32 := 0#32
  let v747 : BitVec 1 := Scalar.cmpi .slt v743 c0_i32_871
  let v748 : BitVec 1 := Scalar.xori v746 v747
  let c0_i32_869 : BitVec 32 := 0#32
  let v745 : BitVec 1 := Scalar.cmpi .ne v744 c0_i32_869
  let v749 : BitVec 1 := Scalar.andi v748 v745
  let v750 : BitVec 32 := Scalar.addi v744 v743
  let v751 : BitVec 32 := Scalar.select v749 v750 v744
  let c1_i32_878 : BitVec 32 := 1#32
  let v753 : BitVec 32 := Scalar.muli v751 c1_i32_878
  let v754 : BitVec 32 := Scalar.addi c0_i32_879 v753
  v754.toNat
def k0_dev28 (d0 : Dev nD) : Nat :=
  let c0_i32_897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_883 : BitVec 32 := 7#32
  let v762 : BitVec 32 := Scalar.addi v2 c7_i32_883
  let c8_i32_884 : BitVec 32 := 8#32
  let c0_i32_885 : BitVec 32 := 0#32
  let v763 : BitVec 1 := Scalar.cmpi .eq c8_i32_884 c0_i32_885
  let c1_i32_886 : BitVec 32 := 1#32
  let v764 : BitVec 32 := Scalar.select v763 c1_i32_886 c8_i32_884
  let v765 : BitVec 32 := Scalar.remsi v762 v764
  let c0_i32_888 : BitVec 32 := 0#32
  let v767 : BitVec 1 := Scalar.cmpi .slt v765 c0_i32_888
  let c0_i32_889 : BitVec 32 := 0#32
  let v768 : BitVec 1 := Scalar.cmpi .slt v764 c0_i32_889
  let v769 : BitVec 1 := Scalar.xori v767 v768
  let c0_i32_887 : BitVec 32 := 0#32
  let v766 : BitVec 1 := Scalar.cmpi .ne v765 c0_i32_887
  let v770 : BitVec 1 := Scalar.andi v769 v766
  let v771 : BitVec 32 := Scalar.addi v765 v764
  let v772 : BitVec 32 := Scalar.select v770 v771 v765
  let c1_i32_896 : BitVec 32 := 1#32
  let v774 : BitVec 32 := Scalar.muli v772 c1_i32_896
  let v775 : BitVec 32 := Scalar.addi c0_i32_897 v774
  v775.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1034 : BitVec 32 := 16#32
  let v867 : BitVec 32 := Scalar.muli v2 c16_i32_1034
  let v868 : Index := Scalar.indexCast v867
  let c0_1035 : Index := 0#32
  ![v868.toNat, 0]
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x128 : Shape := ⟨2, ![128, 128]⟩
abbrev S128x2048 : Shape := ⟨2, ![128, 2048]⟩
abbrev S2048x128 : Shape := ⟨2, ![2048, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S128x128, .bf16⟩
  | .hbm, ⟨1, _⟩ => ⟨S128x2048, .bf16⟩
  | .hbm, ⟨2, _⟩ => ⟨S128x2048, .bf16⟩
  | .hbm, ⟨3, _⟩ => ⟨S128x2048, .bf16⟩
  | .hbm, ⟨4, _⟩ => ⟨S2048x128, .bf16⟩
  | .hbm, ⟨5, _⟩ => ⟨S2048x128, .bf16⟩
  | .hbm, ⟨6, _⟩ => ⟨S2048x128, .bf16⟩
  | .hbm, ⟨7, _⟩ => ⟨S128x2048, .f32⟩
  | .hbm, ⟨8, _⟩ => ⟨S128x2048, .bf16⟩
  | .hbm, ⟨9, _⟩ => ⟨S_, .bf16⟩
  | .hbm, ⟨10, _⟩ => ⟨S128x2048, .bf16⟩
  | .hbm, ⟨11, _⟩ => ⟨S128x2048, .bf16⟩
  | .hbm, ⟨12, _⟩ => ⟨S128x128, .f32⟩
  | .hbm, ⟨13, _⟩ => ⟨S128x128, .bf16⟩
  | .hbm, ⟨14, _⟩ => ⟨S128x2048, .f32⟩
  | .hbm, ⟨15, _⟩ => ⟨S128x2048, .bf16⟩
  | .hbm, ⟨16, _⟩ => ⟨S_, .bf16⟩
  | .hbm, ⟨17, _⟩ => ⟨S128x2048, .bf16⟩
  | .hbm, ⟨18, _⟩ => ⟨S128x2048, .bf16⟩
  | .hbm, ⟨19, _⟩ => ⟨S128x128, .f32⟩
  | .hbm, ⟨20, _⟩ => ⟨S128x128, .bf16⟩
  | .hbm, ⟨21, _⟩ => ⟨S128x2048, .f32⟩
  | .hbm, ⟨22, _⟩ => ⟨S128x2048, .bf16⟩
  | .hbm, ⟨23, _⟩ => ⟨S_, .bf16⟩
  | .hbm, ⟨24, _⟩ => ⟨S128x2048, .bf16⟩
  | .hbm, ⟨25, _⟩ => ⟨S128x2048, .bf16⟩
  | .hbm, ⟨26, _⟩ => ⟨S128x128, .f32⟩
  | .hbm, ⟨27, _⟩ => ⟨S128x128, .bf16⟩
  | .hbm, ⟨28, _⟩ => ⟨S128x128, .f32⟩
  | _, _ => ⟨S128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.KI.Loops.lean ====
/-
# The kernel's body as loops over the seven peers

The printed body is one long unrolled sequence: seven signals, then in each of three phases seven remote copies,
seven waits for what arrives and seven waits for what was sent. Here the same sequence is written with the seven
offsets as a list, so that each kind of step is proved once and used for every offset. Nothing is changed: the
printed body equals the loops by definitional unfolding (`body_eq_loops`).

An offset is a number `r : Fin 7` and stands for the device `r + 1` places further round the mesh of eight.
-/
module

public import proofs.«01_k».proof.Proof.Gen.KernelIdeal
public import proofs.«01_k».proof.Proof.Gen.KernelIdeal.Skeleton

@[expose] public section

noncomputable section

namespace Cert.KI

open Cert.KernelIdeal Cert.KernelIdeal.Gen
open Idealize.ShloMosaic Idealize.ShloMosaic.TcCoe
open Idealize.SL.Sem

variable {F : FTy → Type} [FloatOps F]

/-! ## The scratch buffers and their pieces -/

/-- The landing buffer of the two gathers: two layers of eight slots of a `128 × 128` block. -/
abbrev accM : Memref sig .tc .vmem S2x8x128x128 .bf16 := Memref.whole cc0_scratch0
/-- The landing buffer of the scatter: eight slots of sixteen rows. -/
abbrev rsM : Memref sig .tc .vmem S8x16x128 .bf16 := Memref.whole cc0_scratch1
/-- The last layer's partial product, whose rows are dealt out. -/
abbrev ptM : Memref sig .tc .vmem S128x128 .bf16 := Memref.whole cc0_scratch2

/-- Slot `o` of layer `l` lies inside the gathers' buffer. -/
theorem acc_inb (l : Fin 2) (o : Fin 8) : ∀ a, (![l.val, o.val, 0, 0] : Fin 4 → Nat) a + S1x1x128x128.size a ≤ S2x8x128x128.size a := by
  revert l o; decide
/-- Slot `o` lies inside the scatter's buffer. -/
theorem rs_inb (o : Fin 8) : ∀ a, (![o.val, 0, 0] : Fin 3 → Nat) a + S1x16x128.size a ≤ S8x16x128.size a := by
  revert o; decide
/-- Entry `(p, o)` lies inside a semaphore array. -/
theorem sem_inb (p : Fin 3) (o : Fin 8) : ∀ a, (![p.val, o.val] : Fin 2 → Nat) a + S1x1.size a ≤ S3x8.size a := by
  revert p o; decide

/-- Slot `o` of layer `l` is whole words. -/
theorem acc_words (l : Fin 2) (o : Fin 8) :
    (Rect.unit (s := S2x8x128x128) ![l.val, o.val, 0, 0] S1x1x128x128.size (acc_inb l o)).WholeWords (EltTy.packing .bf16) := by
  revert l o; decide
/-- Slot `o` of the scatter's buffer is whole words. -/
theorem rs_words (o : Fin 8) :
    (Rect.unit (s := S8x16x128) ![o.val, 0, 0] S1x16x128.size (rs_inb o)).WholeWords (EltTy.packing .bf16) := by
  revert o; decide

/-- Slot `o` of layer `l`, as the kernel slices and squeezes it. -/
abbrev slotA (l : Fin 2) (o : Fin 8) : Memref sig .tc .vmem S128x128 .bf16 :=
  (accM.slice (Rect.unit (s := S2x8x128x128) ![l.val, o.val, 0, 0] S1x1x128x128.size (acc_inb l o)) (fun _ => rfl)).squeeze S128x128 squeezes_S1x1x128x128_S128x128
/-- Slot `o` of the scatter's buffer. -/
abbrev slotR (o : Fin 8) : Memref sig .tc .vmem S16x128 .bf16 :=
  (rsM.slice (Rect.unit (s := S8x16x128) ![o.val, 0, 0] S1x16x128.size (rs_inb o)) (fun _ => rfl)).squeeze S16x128 squeezes_S1x16x128_S16x128
/-- The sixteen rows of the partial product that belong to the device `r + 1` places on from `c`. -/
abbrev rowsM (c : Dev nD) (r : Fin 7) : Memref sig .tc .vmem S16x128 .bf16 :=
  ptM.slice (Rect.unit (s := S128x128) (k0_off1 c (BitVec.ofNat 32 (1 + r.val))) S16x128.size (k0_off1_inb c r)) (fun _ => rfl)

/-- A slot of the gathers' buffer is word exact. -/
theorem slotA_exact (l : Fin 2) (o : Fin 8) : (slotA l o).view.WordExact :=
  ((Memref.isWhole_whole cc0_scratch0).wordExact_slice rfl _ (acc_words l o)).reshape _ _
/-- A slot of the scatter's buffer is word exact. -/
theorem slotR_exact (o : Fin 8) : (slotR o).view.WordExact :=
  ((Memref.isWhole_whole cc0_scratch1).wordExact_slice rfl _ (rs_words o)).reshape _ _
/-- A device's rows are word exact. -/
theorem rowsM_exact (c : Dev nD) (r : Fin 7) : (rowsM c r).view.WordExact :=
  (Memref.isWhole_whole cc0_scratch2).wordExact_slice rfl _ (k0_off1_wordsbf16 c r)

/-- The send semaphore of phase `p` at offset index `o`, as the kernel slices it. -/
abbrev sendS (p : Fin 3) (o : Fin 8) : DmaSem sig :=
  ((cc0_scratch3.slice (Rect.unit (s := S3x8) ![p.val, o.val] S1x1.size (sem_inb p o))).squeeze S_ squeezes_S1x1_S_).sem
/-- The receive semaphore of phase `p` at offset index `o`. -/
abbrev recvS (p : Fin 3) (o : Fin 8) : DmaSem sig :=
  ((cc0_scratch4.slice (Rect.unit (s := S3x8) ![p.val, o.val] S1x1.size (sem_inb p o))).squeeze S_ squeezes_S1x1_S_).sem

/-- The runtime's barrier semaphore. -/
abbrev barS : Sem sig := (SemArray.scalar (sig.barrier 0 rfl) : Sems sig S_).sem

/-! ## The devices addressed -/

/-- The device the `r`-th signal goes to, as printed. -/
def sigDev (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
/-- The device the `r`-th copy of each phase goes to, as printed. -/
def sendDev (c : Dev nD) : Fin 3 → Fin 7 → Dev nD :=
  ![![⟨k0_dev8 c, k0_dev8_lt c⟩, ⟨k0_dev9 c, k0_dev9_lt c⟩, ⟨k0_dev10 c, k0_dev10_lt c⟩, ⟨k0_dev11 c, k0_dev11_lt c⟩,
      ⟨k0_dev12 c, k0_dev12_lt c⟩, ⟨k0_dev13 c, k0_dev13_lt c⟩, ⟨k0_dev14 c, k0_dev14_lt c⟩],
    ![⟨k0_dev15 c, k0_dev15_lt c⟩, ⟨k0_dev16 c, k0_dev16_lt c⟩, ⟨k0_dev17 c, k0_dev17_lt c⟩, ⟨k0_dev18 c, k0_dev18_lt c⟩,
      ⟨k0_dev19 c, k0_dev19_lt c⟩, ⟨k0_dev20 c, k0_dev20_lt c⟩, ⟨k0_dev21 c, k0_dev21_lt c⟩],
    ![⟨k0_dev22 c, k0_dev22_lt c⟩, ⟨k0_dev23 c, k0_dev23_lt c⟩, ⟨k0_dev24 c, k0_dev24_lt c⟩, ⟨k0_dev25 c, k0_dev25_lt c⟩,
      ⟨k0_dev26 c, k0_dev26_lt c⟩, ⟨k0_dev27 c, k0_dev27_lt c⟩, ⟨k0_dev28 c, k0_dev28_lt c⟩]]

/-- The device `r + 1` places on from `c`. -/
def rot (c : Dev nD) (r : Fin 7) : Dev nD := ⟨(c.val + r.val + 1) % 8, Nat.mod_lt _ (by decide)⟩

/-- Every signal goes to the device its offset names. -/
theorem sigDev_eq (c : Dev nD) (r : Fin 7) : sigDev c r = rot c r := by revert c r; decide +kernel
/-- Every copy goes to the device its offset names. -/
theorem sendDev_eq (c : Dev nD) (p : Fin 3) (r : Fin 7) : sendDev c p r = rot c r := by revert c p r; decide +kernel
/-- The rows a copy reads start at sixteen times the receiving device's number. -/
theorem rows_off (c : Dev nD) (r : Fin 7) : k0_off1 c (BitVec.ofNat 32 (1 + r.val)) = ![16 * (rot c r).val, 0] := by
  revert c r; decide +kernel

/-! ## The loops -/

/-- The seven offsets in the order the kernel visits them. -/
abbrev offs : List (Fin 7) := [0, 1, 2, 3, 4, 5, 6]

/-- Programs of the kernel's body. -/
abbrev Body (F : FTy → Type) : Type 1 := Prog (TpuEff nD τ sig (Elt F) Λ₀ .tc) PUnit

/-- One unit to each peer's barrier semaphore. -/
def signals (c : Dev nD) (rs : List (Fin 7)) (k : Body F) : Body F :=
  rs.foldr (fun r k => .op (.semSignal (sigDev c r, .tc) barS (1#32).toInt) fun _ => k) k

/-- Layer `l`'s own slot copied to each peer. -/
def sendsA (c : Dev nD) (l : Fin 2) (rs : List (Fin 7)) (k : Body F) : Body F :=
  rs.foldr (fun r k => .op (.enqueueDma (slotA l 0) (.remote (Dev.tc (sendDev c l.castSucc r)) (slotA l r.succ) (.dma (sendS l.castSucc r.succ)))
    (.dma (recvS l.castSucc r.succ)) (slotA_exact l 0) (slotA_exact l r.succ) ⟨⟨rfl, Or.inl rfl⟩, trivial⟩) fun _ => k) k
/-- The wait for each peer's copy of layer `l` to arrive. -/
def recvsA (l : Fin 2) (rs : List (Fin 7)) (k : Body F) : Body F :=
  rs.foldr (fun r k => .op (.waitDma2 (recvS l.castSucc r.succ) (slotA l 0) (slotA l r.succ) (slotA_exact l 0) (slotA_exact l r.succ)) fun _ => k) k
/-- The wait for each of this device's own copies of layer `l` to have left. -/
def sentsA (l : Fin 2) (rs : List (Fin 7)) (k : Body F) : Body F :=
  rs.foldr (fun r k => .op (.waitDma2 (sendS l.castSucc r.succ) (slotA l r.succ) (slotA l 0) (slotA_exact l r.succ) (slotA_exact l 0)) fun _ => k) k

/-- Each peer's rows of the last partial product copied to it. -/
def sendsR (c : Dev nD) (rs : List (Fin 7)) (k : Body F) : Body F :=
  rs.foldr (fun r k => .op (.enqueueDma (rowsM c r) (.remote (Dev.tc (sendDev c 2 r)) (slotR r.succ) (.dma (sendS 2 r.succ)))
    (.dma (recvS 2 r.succ)) (rowsM_exact c r) (slotR_exact r.succ) ⟨⟨rfl, Or.inl rfl⟩, trivial⟩) fun _ => k) k
/-- The wait for each peer's rows to arrive. -/
def recvsR (c : Dev nD) (rs : List (Fin 7)) (k : Body F) : Body F :=
  rs.foldr (fun r k => .op (.waitDma2 (recvS 2 r.succ) (rowsM c r) (slotR r.succ) (rowsM_exact c r) (slotR_exact r.succ)) fun _ => k) k
/-- The wait for each of this device's own rows to have left. -/
def sentsR (c : Dev nD) (rs : List (Fin 7)) (k : Body F) : Body F :=
  rs.foldr (fun r k => .op (.waitDma2 (sendS 2 r.succ) (slotR r.succ) (rowsM c r) (slotR_exact r.succ) (rowsM_exact c r)) fun _ => k) k

/-- The staging buffers: `x`, then each layer's two weight blocks, then the output. -/
abbrev xM : Memref sig .tc .vmem S128x128 .bf16 := Memref.whole cc0_stg0_0
abbrev a0M : Memref sig .tc .vmem S128x256 .bf16 := Memref.whole cc0_stg1_0
abbrev b0M : Memref sig .tc .vmem S256x128 .bf16 := Memref.whole cc0_stg2_0
abbrev a1M : Memref sig .tc .vmem S128x256 .bf16 := Memref.whole cc0_stg3_0
abbrev b1M : Memref sig .tc .vmem S256x128 .bf16 := Memref.whole cc0_stg4_0
abbrev a2M : Memref sig .tc .vmem S128x256 .bf16 := Memref.whole cc0_stg5_0
abbrev b2M : Memref sig .tc .vmem S256x128 .bf16 := Memref.whole cc0_stg6_0
abbrev oM : Memref sig .tc .vmem S16x128 .f32 := Memref.whole cc0_stg7_0

/-- The rectangles the loads and stores go through. -/
abbrev rX : Rect S128x128 := Rect.unit (s := S128x128) ![0, 0] S128x128.size inb_S128x128_S128x128_0_0
abbrev rA : Rect S128x256 := Rect.unit (s := S128x256) ![0, 0] S128x256.size inb_S128x256_S128x256_0_0
abbrev rB : Rect S256x128 := Rect.unit (s := S256x128) ![0, 0] S256x128.size inb_S256x128_S256x128_0_0
abbrev rO : Rect S16x128 := Rect.unit (s := S16x128) ![0, 0] S16x128.size inb_S16x128_S16x128_0_0
abbrev rOwn (c : Dev nD) : Rect S128x128 := Rect.unit (s := S128x128) (k0_off2 c) S16x128.size (k0_off2_inb c)
abbrev rRest : Rect S8x16x128 := Rect.unit (s := S8x16x128) ![1, 0, 0] S7x16x128.size inb_S8x16x128_S7x16x128_1_0_0
abbrev rSlot0 : Rect S2x8x128x128 := Rect.unit (s := S2x8x128x128) ![0, 0, 0, 0] S1x1x128x128.size inb_S2x8x128x128_S1x1x128x128_0_0_0_0
abbrev rSlot1 : Rect S2x8x128x128 := Rect.unit (s := S2x8x128x128) ![1, 0, 0, 0] S1x1x128x128.size inb_S2x8x128x128_S1x1x128x128_1_0_0_0
abbrev rLay0 : Rect S2x8x128x128 := Rect.unit (s := S2x8x128x128) ![0, 0, 0, 0] S1x8x128x128.size inb_S2x8x128x128_S1x8x128x128_0_0_0_0
abbrev rLay1 : Rect S2x8x128x128 := Rect.unit (s := S2x8x128x128) ![1, 0, 0, 0] S1x8x128x128.size inb_S2x8x128x128_S1x8x128x128_1_0_0_0

/-- The last phase: the rows dealt out, what arrives added up, the output stored. -/
def phase2 (c : Dev nD) : Body F :=
  sendsR c offs <| recvsR c offs <| sentsR c offs <|
  .op (.load ptM (rOwn c).toLoadRect (View.loadsAt_vmem h_S16x128)) fun own : Vec F S16x128 .bf16 =>
  .op (.load rsM rRest.toLoadRect (View.loadsAt_vmem h_S7x16x128)) fun rest : Vec F S7x16x128 .bf16 =>
  .op (.load oM rO.toLoadRect (View.loadsAt_vmem h_S16x128)) fun _ =>
  .op (.store oM rO (k0_pay5 own rest) Finset.univ (View.stores_vmem_bits_univ h_S16x128 rfl) (.inl rfl)) fun _ => .ret ⟨⟩

/-- The second layer's phase, ending with the last partial product stored. -/
def phase1 (c : Dev nD) : Body F :=
  sendsA c 1 offs <| recvsA 1 offs <| sentsA 1 offs <|
  .op (.load accM rLay1.toLoadRect (View.loadsAt_vmem h_S1x8x128x128)) fun x : Vec F S1x8x128x128 .bf16 =>
  .op (.load a2M rA.toLoadRect (View.loadsAt_vmem h_S128x256)) fun a : Vec F S128x256 .bf16 =>
  .op (.load b2M rB.toLoadRect (View.loadsAt_vmem h_S256x128)) fun b : Vec F S256x128 .bf16 =>
  .op (.load ptM rX.toLoadRect (View.loadsAt_vmem h_S128x128)) fun _ =>
  .op (.store ptM rX (k0_pay4 x a b) Finset.univ
    (View.stores_vmem h_S128x128 ((Memref.isWhole_whole cc0_scratch2).storeExact_slice rfl _ packedbf16_S128x128_S128x128_0_0) (fun _ => rfl)) (.inl rfl)) fun _ =>
  phase2 c

/-- The first layer's phase, ending with the second partial product stored. -/
def phase0 (c : Dev nD) : Body F :=
  sendsA c 0 offs <| recvsA 0 offs <| sentsA 0 offs <|
  .op (.load accM rLay0.toLoadRect (View.loadsAt_vmem h_S1x8x128x128)) fun x : Vec F S1x8x128x128 .bf16 =>
  .op (.load a1M rA.toLoadRect (View.loadsAt_vmem h_S128x256)) fun a : Vec F S128x256 .bf16 =>
  .op (.load b1M rB.toLoadRect (View.loadsAt_vmem h_S256x128)) fun b : Vec F S256x128 .bf16 =>
  .op (.load accM rSlot1.toLoadRect (View.loadsAt_vmem h_S1x1x128x128)) fun _ =>
  .op (.store accM rSlot1 (k0_pay3 (k0_pay2 x a b)) Finset.univ
    (View.stores_vmem h_S1x1x128x128 ((Memref.isWhole_whole cc0_scratch0).storeExact_slice rfl _ packedbf16_S2x8x128x128_S1x1x128x128_1_0_0_0) (fun _ => rfl)) (.inl rfl)) fun _ =>
  phase1 c

/-- Device `c`'s body: the barrier, the first partial product, the three phases. -/
def bodyOf (c : Dev nD) : Body F :=
  signals c offs <|
  .op (.semWait barS (7#32).toInt) fun _ =>
  .op (.load xM rX.toLoadRect (View.loadsAt_vmem h_S128x128)) fun x : Vec F S128x128 .bf16 =>
  .op (.load a0M rA.toLoadRect (View.loadsAt_vmem h_S128x256)) fun a : Vec F S128x256 .bf16 =>
  .op (.load b0M rB.toLoadRect (View.loadsAt_vmem h_S256x128)) fun b : Vec F S256x128 .bf16 =>
  .op (.load accM rSlot0.toLoadRect (View.loadsAt_vmem h_S1x1x128x128)) fun _ =>
  .op (.store accM rSlot0 (k0_pay1 x a b) Finset.univ
    (View.stores_vmem h_S1x1x128x128 ((Memref.isWhole_whole cc0_scratch0).storeExact_slice rfl _ packedbf16_S2x8x128x128_S1x1x128x128_0_0_0_0) (fun _ => rfl)) (.inl rfl)) fun _ =>
  phase0 c

/-- The whole body: it asks which device it runs on. -/
def loops : Body F := .op .deviceId fun c => bodyOf c

set_option maxRecDepth 65536 in
/-- The printed body is the loops: by definitional unfolding. -/
theorem body_eq_loops :
    cc0_body (F := F) xM (Memref.isWhole_whole _) a0M (Memref.isWhole_whole _) b0M (Memref.isWhole_whole _) a1M (Memref.isWhole_whole _)
      b1M (Memref.isWhole_whole _) a2M (Memref.isWhole_whole _) b2M (Memref.isWhole_whole _) oM (Memref.isWhole_whole _)
      accM (Memref.isWhole_whole _) rsM (Memref.isWhole_whole _) ptM (Memref.isWhole_whole _) cc0_scratch3 cc0_scratch4 = loops := by
  rw [cc0_body_eq_skeleton]
  rfl

end Cert.KI

end
-- ==== Proof.KI.Slots.lean ====
/-
# The pieces of the kernel's scratch buffers

Which elements a slot, a layer or a device's rows are, how an index of the piece sits in the buffer, and how a whole
buffer's ownership is its pieces'. A device `c` files what device `c - o` sent it in slot `o`; its own block is in
slot `0`.
-/
module

public import proofs.«01_k».proof.Proof.KI.Loops
public import Idealize.ShloMosaic.Lib.Pipeline.Launch
public import Idealize.ShloMosaic.Lib.Pipeline.Kit
public import Idealize.ShloMosaic.Lib.Pipeline.BigSepL
public import Idealize.ShloMosaic.Lib.ShareLeaves
public import Idealize.ShloMosaic.Lib.ValueLayout
public import Idealize.ShloMosaic.Lib.Tactic

@[expose] public section

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

/-! ## The ghost state -/

/-- The rounds library's state over the kernel's semaphore cells, its duties numbered by offsets. -/
abbrev UB : Type := URounds (GSem nD τ sig) (Fin 7)
/-- The pipeline's own state beside it. -/
abbrev UU : Type := UR sig nD τ × UB

local notation "𝕄" => MT nD τ sig Unit (Elt F) ℕ UU ℕ

/-! ## Going round the mesh -/

/-- The device whose block sits in slot `o` of device `c`. -/
def src (c : Dev nD) (o : Fin 8) : Dev nD := ⟨(c.val + 8 - o.val) % 8, Nat.mod_lt _ (by decide)⟩
/-- The device `o` places on from `c`. -/
def around (c : Dev nD) (o : Fin 8) : Dev nD := ⟨(c.val + o.val) % 8, Nat.mod_lt _ (by decide)⟩

/-- A device's own block is in its slot `0`. -/
theorem src_zero (c : Dev nD) : src c 0 = c := by revert c; decide +kernel
/-- What `c` sends `r + 1` places on is found there in slot `r + 1`. -/
theorem src_rot (c : Dev nD) (r : Fin 7) : src (rot c r) r.succ = c := by revert c r; decide +kernel
/-- The other way about. -/
theorem rot_src (c : Dev nD) (r : Fin 7) : rot (src c r.succ) r = c := by revert c r; decide +kernel
/-- Seven offsets on and its mirror image is once round. -/
theorem rot_rev (c : Dev nD) (r : Fin 7) : rot (rot c r) (Fin.rev r) = c := by revert c r; decide +kernel
/-- The zeroth place on is the device itself. -/
theorem around_zero (c : Dev nD) : around c 0 = c := by revert c; decide +kernel
/-- The later places are the offsets'. -/
theorem around_succ (c : Dev nD) (r : Fin 7) : around c r.succ = rot c r := by revert c r; decide +kernel
/-- Going round from `c` reaches every device once. -/
theorem around_bij (c : Dev nD) : Function.Bijective (around c) := by revert c; decide +kernel
/-- The places round the mesh from `c`, matched with the devices. -/
def aroundE (c : Dev nD) : Fin 8 ≃ Dev nD := Equiv.ofBijective (around c) (around_bij c)

/-! ## A slot of the gathers' buffer -/

/-- The elements of slot `o` of layer `l`. -/
theorem mem_slotA (l : Fin 2) (o : Fin 8) (i : S2x8x128x128.Idx) :
    Iff (i ∈ (slotA l o).view.set) (i 0 = l ∧ i 1 = o) := by
  have hs : (slotA l o).view.set = (Rect.unit (s := S2x8x128x128) ![l.val, o.val, 0, 0] S1x1x128x128.size (acc_inb l o)).set :=
    (View.set_reshape _ _).trans (View.set_slice_whole _ _)
  rw [hs, Rect.mem_set_unit]
  constructor
  · intro h
    have h0 := h 0; have h1 := h 1
    simp at h0 h1
    exact ⟨Fin.ext (by omega), Fin.ext (by omega)⟩
  · rintro ⟨h0, h1⟩ a
    subst h0 h1
    fin_cases a
    · simp
    · simp
    · simpa using (i 2).isLt
    · simpa using (i 3).isLt

/-- Where an index of slot `o` of layer `l` sits in the buffer. -/
theorem emb_slotA (l : Fin 2) (o : Fin 8) (j : S128x128.Idx) :
    (slotA l o).view.emb j = (ix4 l o (j 0) (j 1) : S2x8x128x128.Idx) := by
  have hj : Shape.reshapeEquiv squeezes_S1x1x128x128_S128x128.numel_eq j = (ix4 (⟨0, Nat.one_pos⟩ : Fin 1) (⟨0, Nat.one_pos⟩ : Fin 1) (j 0) (j 1) : S1x1x128x128.Idx) :=
    (congrArg _ (eq_ix2 j)).trans (reshapeEquiv_ix2_11ab (a := 128) (b := 128) _ (j 0) (j 1))
  have h : (slotA l o).view.emb j = (Rect.unit (s := S2x8x128x128) ![l.val, o.val, 0, 0] S1x1x128x128.size (acc_inb l o)).emb
      (Shape.reshapeEquiv squeezes_S1x1x128x128_S128x128.numel_eq j) := rfl
  rw [h, hj]
  funext a
  apply Fin.ext
  rw [Rect.emb_apply]
  fin_cases a <;> simp

/-- An element of slot `o` of layer `l` is one of the slot's indices. -/
theorem slotA_eq_emb (l : Fin 2) (o : Fin 8) (i : S2x8x128x128.Idx) (h : i ∈ (slotA l o).view.set) :
    i = (slotA l o).view.emb (ix2 (i 2) (i 3) : S128x128.Idx) := by
  obtain ⟨h0, h1⟩ := (mem_slotA l o i).mp h
  rw [emb_slotA, ← h0, ← h1]
  exact eq_ix4 i

/-- Slot `o` of layer `l` of device `c` at contents `f`. -/
def aPts (c : Dev nD) (l : Fin 2) (o : Fin 8) (q : PosShare TreeShare) (f : Buf (Elt F) ((c : Thread nD τ).loc cc0_scratch0)) : sProp 𝕄 :=
  (slotA l o).view.loc (c : Thread nD τ) ↦[(slotA l o).view.set]{q} f

instance aPts_storable (c : Dev nD) (l : Fin 2) (o : Fin 8) (q : PosShare TreeShare) (f : Buf (Elt F) ((c : Thread nD τ).loc cc0_scratch0)) :
    BI.Storable (upEmb : UEmb _ 𝕄) (aPts c l o q f) := by unfold aPts; infer_instance

/-- Two different slots share no element. -/
theorem slotA_disjoint (x y : Fin 2 × Fin 8) (h : x ≠ y) : Disjoint (slotA x.1 x.2).view.set (slotA y.1 y.2).view.set :=
  Finset.disjoint_left.mpr fun i hx hy => by
    obtain ⟨a0, a1⟩ := (mem_slotA _ _ i).mp hx
    obtain ⟨b0, b1⟩ := (mem_slotA _ _ i).mp hy
    exact h (Prod.ext (a0.symm.trans b0) (a1.symm.trans b1))

/-- The slots make up the buffer. -/
theorem slotA_cover : (Finset.univ : Finset S2x8x128x128.Idx) = Finset.univ.biUnion fun x : Fin 2 × Fin 8 => (slotA x.1 x.2).view.set := by
  ext i
  simp only [Finset.mem_univ, Finset.mem_biUnion, true_and, true_iff]
  exact ⟨(i 0, i 1), (mem_slotA _ _ i).mpr ⟨rfl, rfl⟩⟩

/-- The elements of layer `l`. -/
def layer (l : Fin 2) : Finset S2x8x128x128.Idx := Finset.univ.biUnion fun o : Fin 8 => (slotA l o).view.set

/-- They are those whose first coordinate is `l`. -/
theorem mem_layer (l : Fin 2) (i : S2x8x128x128.Idx) : Iff (i ∈ layer l) (i 0 = l) := by
  unfold layer
  simp only [Finset.mem_biUnion, Finset.mem_univ, true_and]
  exact ⟨fun ⟨o, h⟩ => ((mem_slotA l o i).mp h).1, fun h => ⟨i 1, (mem_slotA _ _ i).mpr ⟨h, rfl⟩⟩⟩

/-- A layer owned is its eight slots owned. -/
theorem layer_split (c : Dev nD) (l : Fin 2) (q : PosShare TreeShare) (f : Buf (Elt F) ((c : Thread nD τ).loc cc0_scratch0)) :
    (((c : Thread nD τ).loc cc0_scratch0) ↦[layer l]{q} f : sProp 𝕄) = bigSep Finset.univ fun o : Fin 8 => aPts c l o q f :=
  pointsTo_biUnion _ _ fun x _ y _ h => slotA_disjoint (l, x) (l, y) fun e => h (congrArg Prod.snd e)

/-- The whole buffer owned is its sixteen slots owned. -/
theorem acc_split (c : Dev nD) (q : PosShare TreeShare) (f : Buf (Elt F) ((c : Thread nD τ).loc cc0_scratch0)) :
    (((c : Thread nD τ).loc cc0_scratch0) ↦{q} f : sProp 𝕄)
      = bigSep Finset.univ fun l : Fin 2 => bigSep Finset.univ fun o : Fin 8 => aPts c l o q f := by
  rw [← bigSep_univ_prod (fun x : Fin 2 × Fin 8 => aPts c x.1 x.2 q f)]
  exact (congrArg (fun S => (((c : Thread nD τ).loc cc0_scratch0) ↦[S]{q} f : sProp 𝕄)) slotA_cover).trans
    (pointsTo_biUnion _ _ fun x _ y _ h => slotA_disjoint x y h)

/-! ## A slot of the scatter's buffer -/

/-- The elements of slot `o`. -/
theorem mem_slotR (o : Fin 8) (i : S8x16x128.Idx) : Iff (i ∈ (slotR o).view.set) (i 0 = o) := by
  have hs : (slotR o).view.set = (Rect.unit (s := S8x16x128) ![o.val, 0, 0] S1x16x128.size (rs_inb o)).set :=
    (View.set_reshape _ _).trans (View.set_slice_whole _ _)
  rw [hs, Rect.mem_set_unit]
  constructor
  · intro h
    have h0 := h 0
    simp at h0
    exact Fin.ext (by omega)
  · intro h0 a
    subst h0
    fin_cases a
    · simp
    · simpa using (i 1).isLt
    · simpa using (i 2).isLt

/-- Where an index of slot `o` sits in the buffer. -/
theorem emb_slotR (o : Fin 8) (j : S16x128.Idx) : (slotR o).view.emb j = (ix3 o (j 0) (j 1) : S8x16x128.Idx) := by
  have hj : Shape.reshapeEquiv squeezes_S1x16x128_S16x128.numel_eq j = (ix3 (⟨0, Nat.one_pos⟩ : Fin 1) (j 0) (j 1) : S1x16x128.Idx) :=
    (congrArg _ (eq_ix2 j)).trans (reshapeEquiv_ix2_1ab (a := 16) (b := 128) _ (j 0) (j 1))
  have h : (slotR o).view.emb j = (Rect.unit (s := S8x16x128) ![o.val, 0, 0] S1x16x128.size (rs_inb o)).emb
      (Shape.reshapeEquiv squeezes_S1x16x128_S16x128.numel_eq j) := rfl
  rw [h, hj]
  funext a
  apply Fin.ext
  rw [Rect.emb_apply]
  fin_cases a <;> simp

/-- An element of slot `o` is one of the slot's indices. -/
theorem slotR_eq_emb (o : Fin 8) (i : S8x16x128.Idx) (h : i ∈ (slotR o).view.set) :
    i = (slotR o).view.emb (ix2 (i 1) (i 2) : S16x128.Idx) := by
  rw [emb_slotR, ← (mem_slotR o i).mp h]
  exact eq_ix3 i

/-- Slot `o` of device `c`'s scatter buffer at contents `f`. -/
def sPts (c : Dev nD) (o : Fin 8) (f : Buf (Elt F) ((c : Thread nD τ).loc cc0_scratch1)) : sProp 𝕄 :=
  (slotR o).view.loc (c : Thread nD τ) ↦[(slotR o).view.set]{fullShare} f

instance sPts_storable (c : Dev nD) (o : Fin 8) (f : Buf (Elt F) ((c : Thread nD τ).loc cc0_scratch1)) :
    BI.Storable (upEmb : UEmb _ 𝕄) (sPts c o f) := by unfold sPts; infer_instance

/-- The whole buffer owned is its eight slots owned. -/
theorem rs_split (c : Dev nD) (f : Buf (Elt F) ((c : Thread nD τ).loc cc0_scratch1)) :
    (((c : Thread nD τ).loc cc0_scratch1) ↦{fullShare} f : sProp 𝕄) = bigSep Finset.univ fun o : Fin 8 => sPts c o f := by
  have hc : (Finset.univ : Finset S8x16x128.Idx) = Finset.univ.biUnion fun o : Fin 8 => (slotR o).view.set := by
    ext i
    simp only [Finset.mem_univ, Finset.mem_biUnion, true_and, true_iff]
    exact ⟨i 0, (mem_slotR _ i).mpr rfl⟩
  exact (congrArg (fun S => (((c : Thread nD τ).loc cc0_scratch1) ↦[S]{fullShare} f : sProp 𝕄)) hc).trans
    (pointsTo_biUnion _ _ fun x _ y _ h => Finset.disjoint_left.mpr fun i hx hy =>
      h (((mem_slotR x i).mp hx).symm.trans ((mem_slotR y i).mp hy)))

/-! ## A device's rows of the partial product -/

/-- The sixteen rows that belong to device `d` lie inside the partial product. -/
theorem row_inb (d : Dev nD) : ∀ a, (![16 * d.val, 0] : Fin 2 → Nat) a + S16x128.size a ≤ S128x128.size a := by
  revert d; decide

/-- The elements of the rows that belong to device `d`. -/
def rowSet (d : Dev nD) : Finset S128x128.Idx := (Rect.unit (s := S128x128) ![16 * d.val, 0] S16x128.size (row_inb d)).set

/-- They are those whose first coordinate lies in the device's sixteen. -/
theorem mem_rowSet (d : Dev nD) (i : S128x128.Idx) : Iff (i ∈ rowSet d) ((i 0).val / 16 = d.val) := by
  unfold rowSet
  rw [Rect.mem_set_unit]
  constructor
  · intro h
    have h0 := h 0
    simp at h0
    omega
  · intro h a
    fin_cases a
    · simp; omega
    · simpa using (i 1).isLt

/-- A rectangle of sixteen whole rows from row `16 d` on has those elements, however its offset is written. -/
theorem rowSet_of_off (d : Dev nD) (off : Fin 2 → Nat) (h : off = ![16 * d.val, 0]) (inb : ∀ a, off a + S16x128.size a ≤ S128x128.size a) :
    (Rect.unit (s := S128x128) off S16x128.size inb).set = rowSet d := by subst h; rfl

/-- The elements of the rows sent at offset `r`. -/
theorem rowsM_set (c : Dev nD) (r : Fin 7) : (rowsM c r).view.set = rowSet (rot c r) :=
  (View.set_slice_whole _ _).trans (rowSet_of_off (rot c r) _ (rows_off c r) _)

/-- Row `i` of the rows that belong to device `d`. -/
def rowAt (d : Dev nD) (i : Fin 16) : Fin 128 := ⟨16 * d.val + i.val, by have := d.isLt; have := i.isLt; change d.val < 8 at *; omega⟩

/-- Where an index of the rows sent at offset `r` sits in the partial product. -/
theorem emb_rowsM (c : Dev nD) (r : Fin 7) (j : S16x128.Idx) :
    (rowsM c r).view.emb j = (ix2 (rowAt (rot c r) (j 0)) (j 1) : S128x128.Idx) := by
  have h : (rowsM c r).view.emb j = (Rect.unit (s := S128x128) (k0_off1 c (BitVec.ofNat 32 (1 + r.val))) S16x128.size (k0_off1_inb c r)).emb j := rfl
  rw [h]
  funext a
  apply Fin.ext
  rw [Rect.emb_apply]
  have hoff := congrFun (rows_off c r)
  fin_cases a
  · simp [hoff, rowAt]
  · simp [hoff]

/-- The rows of device `c`'s partial product that belong to device `d`, at contents `f`. -/
def pPts (c d : Dev nD) (f : Buf (Elt F) ((c : Thread nD τ).loc cc0_scratch2)) : sProp 𝕄 :=
  ((c : Thread nD τ).loc cc0_scratch2) ↦[rowSet d]{fullShare} f

instance pPts_storable (c d : Dev nD) (f : Buf (Elt F) ((c : Thread nD τ).loc cc0_scratch2)) :
    BI.Storable (upEmb : UEmb _ 𝕄) (pPts c d f) := by unfold pPts; infer_instance

/-- The whole partial product owned is each device's rows owned, counted round the mesh from `c`. -/
theorem pt_split (c : Dev nD) (f : Buf (Elt F) ((c : Thread nD τ).loc cc0_scratch2)) :
    (((c : Thread nD τ).loc cc0_scratch2) ↦{fullShare} f : sProp 𝕄) = bigSep Finset.univ fun o : Fin 8 => pPts c (around c o) f := by
  have hc : (Finset.univ : Finset S128x128.Idx) = Finset.univ.biUnion fun d : Dev nD => rowSet d := by
    ext i
    simp only [Finset.mem_univ, Finset.mem_biUnion, true_and, true_iff]
    exact ⟨⟨(i 0).val / 16, by have : (i 0).val < 128 := (i 0).isLt; show _ < 8; omega⟩, (mem_rowSet _ i).mpr rfl⟩
  refine Eq.trans ?_ (bigSep_univ_equiv (aroundE c) (fun d : Dev nD => pPts c d f))
  exact (congrArg (fun S => (((c : Thread nD τ).loc cc0_scratch2) ↦[S]{fullShare} f : sProp 𝕄)) hc).trans
    (pointsTo_biUnion _ _ fun x _ y _ h => Finset.disjoint_left.mpr fun i hx hy =>
      h (Fin.ext (((mem_rowSet x i).mp hx).symm.trans ((mem_rowSet y i).mp hy))))

/-! ## Eight pieces as the first and the seven offsets' -/

/-- Something over eight places is the one at place `0` and those at the seven offsets, in the kernel's order. -/
theorem eight_split (Φ : Fin 8 → sProp 𝕄) : bigSep Finset.univ Φ = iprop(Φ 0 ∗ bigSepL offs fun r : Fin 7 => Φ r.succ) := by
  rw [bigSep_univ_eq_bigSepL [0, 1, 2, 3, 4, 5, 6, 7] (by decide) (by decide) Φ, bigSepL_cons', ← bigSepL_map Fin.succ offs Φ]
  rfl

/-- Something over the offsets, in the kernel's order. -/
theorem seven_list (Φ : Fin 7 → sProp 𝕄) : bigSep Finset.univ Φ = bigSepL offs Φ :=
  bigSep_univ_eq_bigSepL offs (by decide) (by decide) Φ

/-- The eight shares a slot's ownership is cut into when several copies read it at once. -/
def shr (o : Fin 8) : PosShare TreeShare := ShareLeaves.leaf 3 fullShare ⟨o.val, o.isLt⟩

/-- Slot `0` of layer `l` owned in full is eight shares of it: one kept and one for each copy that reads it. -/
theorem own_split (c : Dev nD) (l : Fin 2) (f : Buf (Elt F) ((c : Thread nD τ).loc cc0_scratch0)) :
    (aPts c l 0 fullShare f : sProp 𝕄)
      = iprop(aPts c l 0 (shr 0) f ∗ bigSepL offs fun r : Fin 7 => aPts c l 0 (shr r.succ) f) := by
  have h := ShareLeaves.pointsTo_leaves (Ix := Unit) (Name := ℕ) (U := UU) (Lvl := ℕ) (ℓ := (slotA l 0).view.loc (c : Thread nD τ))
    (slotA l 0).view.set f 3 fullShare
  rw [bigSep_univ_equiv (finCongr (by decide : 8 = 2 ^ 3))] at h
  rw [← eight_split fun o => aPts c l 0 (shr o) f]
  exact h

end Cert.KI

end
-- ==== Proof.KI.Protocol.lean ====
/-
# The protocol: what every signal, copy and wait carries

Three gather-like phases after one barrier. Before the barrier a device hands each peer the slots that peer will write
into; a device waiting for its seven peers therefore owns, afterwards, every slot it is about to write. Each copy then
carries two things: the arrival gives the receiver its slot back, holding the sender's block, and the departure gives
the sender back the share of the block it lent. A device never waits for something of a level at or below what it still
owes, so the waits cannot go round in a circle: the barrier is below the first phase's arrivals, these are below the
second's, and these below the third's.
-/
module

public import proofs.«01_k».proof.Proof.KI.Slots
public import proofs.«01_k».proof.Proof.Gen.KernelIdeal.Launch

@[expose] public section

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig Unit (Elt F) ℕ UU ℕ

/-- The pipeline's part of the ghost state. -/
abbrev EP : Emb (UR sig nD τ) (MT nD τ sig Unit (Elt F) ℕ UU ℕ) := embL
/-- The cells' part of the ghost state. -/
abbrev ER : Emb UB (MT nD τ sig Unit (Elt F) ℕ UU ℕ) := embR

/-! ## What the buffers hold -/

/-- The blocks the devices start from: the activations and each layer's two weight blocks. -/
structure Ins (F : FTy → Type) where
  x : Dev nD → Vec F S128x128 .bf16
  a0 : Dev nD → Vec F S128x256 .bf16
  b0 : Dev nD → Vec F S256x128 .bf16
  a1 : Dev nD → Vec F S128x256 .bf16
  b1 : Dev nD → Vec F S256x128 .bf16
  a2 : Dev nD → Vec F S128x256 .bf16
  b2 : Dev nD → Vec F S256x128 .bf16

section Values

variable [FloatOps F] (I : Ins F)

/-- The eight blocks of a gather as device `c` holds them: slot `o` has the block of the device `o` places back. -/
def gathered (p : Dev nD → Vec F S1x1x128x128 .bf16) (c : Dev nD) : Vec F S1x8x128x128 .bf16 :=
  fun i => p (src c (i 1)) (ix4 (0 : Fin 1) (0 : Fin 1) (i 2) (i 3))

/-- Each device's partial product of the first layer. -/
def part0 (c : Dev nD) : Vec F S1x1x128x128 .bf16 := k0_pay1 (I.x c) (I.a0 c) (I.b0 c)
/-- Each device's partial product of the second layer. -/
def part1 (c : Dev nD) : Vec F S1x1x128x128 .bf16 := k0_pay3 (k0_pay2 (gathered (part0 I) c) (I.a1 c) (I.b1 c))
/-- Each device's partial product of the last layer. -/
def part2 (c : Dev nD) : Vec F S128x128 .bf16 := k0_pay4 (gathered (part1 I) c) (I.a2 c) (I.b2 c)

/-- The rows of device `s`'s last partial product that belong to device `c`. -/
def rowsOf (s c : Dev nD) : Vec F S16x128 .bf16 := fun i => part2 I s (ix2 (rowAt c (i 0)) (i 1))
/-- The seven peers' contributions to device `c`'s rows. -/
def restOf (c : Dev nD) : Vec F S7x16x128 .bf16 :=
  fun i => rowsOf I (src c (Fin.succ (n := 7) (i 0))) c (ix2 (i 1) (i 2))
/-- What device `c` returns. -/
def outOf (c : Dev nD) : Vec F S16x128 .f32 := k0_pay5 (rowsOf I c c) (restOf I c)

/-- The gathers' buffer of device `c`, once everything has arrived. -/
def accF (c : Dev nD) : Buf (Elt F) ((c : Thread nD τ).loc cc0_scratch0) :=
  fun i : S2x8x128x128.Idx => gathered (if (i 0).val = 0 then part0 I else part1 I) c (ix4 (0 : Fin 1) (i 1) (i 2) (i 3))
/-- The scatter's buffer of device `c`, once everything has arrived. -/
def rsF (c : Dev nD) : Buf (Elt F) ((c : Thread nD τ).loc cc0_scratch1) :=
  fun i : S8x16x128.Idx => rowsOf I (src c (i 0)) c (ix2 (i 1) (i 2))
/-- The last partial product in its buffer. -/
def ptF (c : Dev nD) : Buf (Elt F) ((c : Thread nD τ).loc cc0_scratch2) := part2 I c

end Values

/-! ## The cells -/

/-- A device's semaphores the kernel uses: the barrier, and for each direction, phase and offset index a DMA semaphore. -/
abbrev Cell : Type := Option (Bool × Fin 3 × Fin 8)

/-- The kernel's own DMA semaphores: `false` for sends, `true` for arrivals. -/
def osem (x : Bool × Fin 3 × Fin 8) : SemLoc sig := .dma (if x.1 then recvS x.2.1 x.2.2 else sendS x.2.1 x.2.2)
/-- The semaphore of a cell. -/
def csem : Cell → SemLoc sig
  | none => .reg barS
  | some x => osem x
/-- The cell of a device. -/
abbrev kcell (ck : Dev nD × Cell) : GSem nD τ sig := ((ck.1 : Thread nD τ), csem ck.2)

/-- The barrier cell of device `c`. -/
abbrev barC (c : Dev nD) : GSem nD τ sig := kcell (c, none)
/-- The cell that counts the departure of phase `p`'s copy at offset `r`. -/
abbrev sendC (c : Dev nD) (p : Fin 3) (r : Fin 7) : GSem nD τ sig := kcell (c, some (false, p, r.succ))
/-- The cell that counts the arrival of phase `p`'s copy at offset `r`. -/
abbrev recvC (c : Dev nD) (p : Fin 3) (r : Fin 7) : GSem nD τ sig := kcell (c, some (true, p, r.succ))

/-- What a semaphore is for. -/
inductive Role where
  | idle
  | bar
  | send (p : Fin 3) (r : Fin 7)
  | recv (p : Fin 3) (r : Fin 7)
  deriving DecidableEq

/-- A phase and offset index as a role: index `0` is never used. -/
def roleOf (mk : Fin 3 → Fin 7 → Role) (n : Nat) : Role :=
  if n % 8 = 0 then .idle else mk ⟨n / 8 % 3, Nat.mod_lt _ (by decide)⟩ ⟨(n % 8 - 1) % 7, Nat.mod_lt _ (by decide)⟩

/-- What each semaphore is for. -/
def role : SemLoc sig → Role
  | .reg s => if s = barS then .bar else .idle
  | .dma q => if q.val < 8 then .idle else if q.val < 32 then roleOf .send (q.val - 8) else roleOf .recv (q.val - 32)

/-- The barrier's role. -/
theorem role_bar : role (csem none) = .bar := by decide +kernel
/-- A departure's role. -/
theorem role_send (p : Fin 3) (r : Fin 7) : role (csem (some (false, p, r.succ))) = .send p r := by revert p r; decide +kernel
/-- An arrival's role. -/
theorem role_recv (p : Fin 3) (r : Fin 7) : role (csem (some (true, p, r.succ))) = .recv p r := by revert p r; decide +kernel
/-- Offset index `0` is idle. -/
theorem role_zero (b : Bool) (p : Fin 3) : role (csem (some (b, p, 0))) = .idle := by revert b p; decide +kernel

/-- A copy of a whole block counts this much on its semaphores … -/
def NA : ℕ := (slotA 0 0).view.dmaCredit
/-- … and a copy of sixteen rows this much. -/
def NR : ℕ := (slotR 0).view.dmaCredit
/-- What a copy of phase `p` counts. -/
def amt (p : Fin 3) : ℕ := if p.val < 2 then NA else NR
/-- Every copy counts something. -/
theorem amt_pos (p : Fin 3) : 0 < amt p := by
  unfold amt NA NR
  split <;> exact View.dmaCredit_pos _ (by decide)

/-! ## The schedule -/

section Schedule

variable [FloatOps F] (I : Ins F)

/-- What a device hands the peer that will write to it at offset `r`: its slot of either layer and of the scatter. -/
def slotsOf (s : Dev nD) (r : Fin 7) : sProp 𝕄 :=
  iprop((∃ f, aPts s 0 r.succ fullShare f) ∗ (∃ f, aPts s 1 r.succ fullShare f) ∗ ∃ f, sPts s r.succ f)

/-- What the departure of device `c`'s copy brings back: the share of its block, or the rows it lent. -/
def sendPay (c : Dev nD) (p : Fin 3) (r : Fin 7) : sProp 𝕄 :=
  if h : p.val < 2 then aPts c ⟨p.val, h⟩ 0 (shr r.succ) (accF I c) else pPts c (rot c r) (ptF I c)
/-- What the arrival of a copy gives device `c`: its slot, with the block in it. -/
def recvPay (c : Dev nD) (p : Fin 3) (r : Fin 7) : sProp 𝕄 :=
  if h : p.val < 2 then aPts c ⟨p.val, h⟩ r.succ fullShare (accF I c) else sPts c r.succ (rsF I c)

instance slotsOf_storable (s : Dev nD) (r : Fin 7) : BI.Storable (upEmb : UEmb _ 𝕄) (slotsOf (F := F) s r) := by
  unfold slotsOf; infer_instance
instance sendPay_storable (c : Dev nD) (p : Fin 3) (r : Fin 7) : BI.Storable (upEmb : UEmb _ 𝕄) (sendPay I c p r) := by
  unfold sendPay; split <;> infer_instance
instance recvPay_storable (c : Dev nD) (p : Fin 3) (r : Fin 7) : BI.Storable (upEmb : UEmb _ 𝕄) (recvPay I c p r) := by
  unfold recvPay; split <;> infer_instance

/-- What duty `d` of a cell of device `c` pays. -/
def pay (c : Dev nD) : Role → Fin 7 → sProp 𝕄
  | .idle, _ => iprop(emp)
  | .bar, d => slotsOf (rot c d) d
  | .send p r, _ => sendPay I c p r
  | .recv p r, _ => recvPay I c p r

/-- The duties of a role: seven signals at the barrier, one copy at a transfer's cell. -/
def dutiesOf : Role → Finset (Fin 7)
  | .idle => ∅
  | .bar => Finset.univ
  | .send _ _ => {0}
  | .recv _ _ => {0}

/-- What a duty of a role counts. -/
def amountOf : Role → ℕ
  | .idle => 1
  | .bar => 1
  | .send p _ => amt p
  | .recv p _ => amt p

/-- The schedule: everything happens in round `0`. -/
def sched : Rounds.Schedule (GSem nD τ sig) (Fin 7) 𝕄 where
  duties g r := if r = 0 ∧ g.1.2 = .tc then dutiesOf (role g.2) else ∅
  unitless _ := False
  amount g _ _ := amountOf (role g.2)
  payload g _ d := pay I g.1.1 (role g.2) d
  amount_pos g _ _ _ := by
    unfold amountOf
    split
    · exact Nat.one_pos
    · exact Nat.one_pos
    · exact amt_pos _
    · exact amt_pos _

instance sched_storable (g : GSem nD τ sig) (r : ℕ) (d : Fin 7) : BI.Storable (upEmb : UEmb _ 𝕄) ((sched I).payload g r d) := by
  show BI.Storable upEmb (pay I g.1.1 (role g.2) d)
  unfold pay
  split <;> infer_instance

/-- The duties of a device's cell. -/
theorem duties_cell (c : Dev nD) (k : Cell) : (sched I).duties (kcell (c, k)) 0 = dutiesOf (role (csem k)) := by
  dsimp only [sched]; exact if_pos ⟨rfl, rfl⟩
/-- No duty comes later. -/
theorem duties_later (g : GSem nD τ sig) : ∀ r, 1 ≤ r → (sched I).duties g r = ∅ :=
  fun r hr => if_neg fun h => by omega
/-- An idle cell has no duty at all. -/
theorem duties_idle (c : Dev nD) (b : Bool) (p : Fin 3) : ∀ r, 0 ≤ r → (sched I).duties (kcell (c, some (b, p, 0))) r = ∅ := fun r _ => by
  by_cases h : r = 0
  · subst h; rw [duties_cell, role_zero]; rfl
  · exact duties_later I _ r (Nat.pos_of_ne_zero h)

/-- The barrier expects seven units. -/
theorem expect_bar (c : Dev nD) : (sched I).expect (barC c) 0 = 7 := by
  unfold Schedule.expect Schedule.amountOf
  rw [duties_cell, role_bar]
  show ∑ d ∈ (Finset.univ : Finset (Fin 7)), amountOf (role (csem none)) = 7
  rw [role_bar]; rfl
/-- A departure's cell expects one copy. -/
theorem expect_send (c : Dev nD) (p : Fin 3) (r : Fin 7) : (sched I).expect (sendC c p r) 0 = amt p := by
  unfold Schedule.expect Schedule.amountOf
  rw [duties_cell, role_send]
  show ∑ d ∈ ({0} : Finset (Fin 7)), amountOf (role (csem (some (false, p, r.succ)))) = amt p
  rw [role_send, Finset.sum_singleton]; rfl
/-- An arrival's cell expects one copy. -/
theorem expect_recv (c : Dev nD) (p : Fin 3) (r : Fin 7) : (sched I).expect (recvC c p r) 0 = amt p := by
  unfold Schedule.expect Schedule.amountOf
  rw [duties_cell, role_recv]
  show ∑ d ∈ ({0} : Finset (Fin 7)), amountOf (role (csem (some (true, p, r.succ)))) = amt p
  rw [role_recv, Finset.sum_singleton]; rfl

/-- What the barrier's duty `d` pays. -/
theorem payload_bar (c : Dev nD) (d : Fin 7) : (sched I).payload (barC c) 0 d = slotsOf (rot c d) d := by
  show pay I c (role (csem none)) d = _
  rw [role_bar]; rfl
/-- What a departure pays. -/
theorem payload_send (c : Dev nD) (p : Fin 3) (r d : Fin 7) : (sched I).payload (sendC c p r) 0 d = sendPay I c p r := by
  show pay I c (role (csem (some (false, p, r.succ)))) d = _
  rw [role_send]; rfl
/-- What an arrival pays. -/
theorem payload_recv (c : Dev nD) (p : Fin 3) (r d : Fin 7) : (sched I).payload (recvC c p r) 0 d = recvPay I c p r := by
  show pay I c (role (csem (some (true, p, r.succ)))) d = _
  rw [role_recv]; rfl

end Schedule

/-! ## What a device owes, and the levels -/

/-- A debt `base` together with one debt for each offset of a list, the first of the list outermost. -/
def tall (t : Fin 7 → CellTallies nD τ sig Unit) (rs : List (Fin 7)) (base : CellTallies nD τ sig Unit) : CellTallies nD τ sig Unit :=
  rs.foldr (fun r a => a + t r) base

/-- The copies of phase `p` device `c` owes its peers. -/
def owedTo (c : Dev nD) (p : Fin 3) (r : Fin 7) : CellTallies nD τ sig Unit := tallyAt (recvC (rot c r) p r) () (amt p)
/-- The signals device `c` owes its peers. -/
def owedBar (c : Dev nD) (r : Fin 7) : CellTallies nD τ sig Unit := tallyAt (barC (rot c r)) () 1

/-- What device `c` owes before the scatter's copies, … -/
def O3 (c : Dev nD) : CellTallies nD τ sig Unit := tall (owedTo c 2) offs 0
/-- … before the second layer's, … -/
def O2 (c : Dev nD) : CellTallies nD τ sig Unit := tall (owedTo c 1) offs (O3 c)
/-- … before the first layer's, … -/
def O1 (c : Dev nD) : CellTallies nD τ sig Unit := tall (owedTo c 0) offs (O2 c)
/-- … and at the start. -/
def O0 (c : Dev nD) : CellTallies nD τ sig Unit := tall (owedBar c) offs (O1 c)

/-- The one label of every TensorCore semaphore. -/
def L (g : GSem nD τ sig) : Finset Unit := if g.1.2 = .tc then {()} else ∅
/-- The level of a role. -/
def lvOf : Role → ℕ
  | .idle => 0
  | .bar => 1
  | .send _ _ => 0
  | .recv p _ => 2 + p.val
/-- The level of a cell. -/
def lv (g : GSem nD τ sig) (_ : Unit) : ℕ := lvOf (role g.2)

/-- Off the TensorCores there is no label. -/
theorem L_of_ne (g : GSem nD τ sig) (h : g.1.2 ≠ .tc) : L g = ∅ := if_neg h

/-- On a TensorCore there is one. -/
theorem L_tc (c : Dev nD) (sm : SemLoc sig) : L ((c : Thread nD τ), sm) = {()} := if_pos rfl

/-- Every debt of `O` lies above level `n`. -/
def Above (n : ℕ) (O : CellTallies nD τ sig Unit) : Prop := ∀ (g : GSem nD τ sig) (u : Unit), 0 < O g u → g.1.2 = .tc ∧ n < lv g u

/-- Owing nothing is above every level. -/
theorem above_zero (n : ℕ) : Above n 0 := fun g u h => absurd h (Nat.lt_irrefl 0)

/-- A debt to one cell of a device lies above a level below the cell's. -/
theorem above_at (n : ℕ) (c : Dev nD) (k : Cell) (a : ℕ) (h : n < lv (kcell (c, k)) ()) : Above n (tallyAt (kcell (c, k)) () a) := fun g u hg => by
  rw [tallyAt_apply] at hg
  by_cases e : g = kcell (c, k) ∧ u = ()
  · rw [e.1]; exact ⟨rfl, h⟩
  · rw [if_neg e] at hg; exact absurd hg (Nat.lt_irrefl 0)

/-- A sum of debts above a level is above it. -/
theorem above_tall (n : ℕ) (t : Fin 7 → CellTallies nD τ sig Unit) (base : CellTallies nD τ sig Unit) (ht : ∀ r, Above n (t r)) (hb : Above n base)
    (rs : List (Fin 7)) : Above n (tall t rs base) := by
  induction rs with
  | nil => exact hb
  | cons r rs ih =>
    intro g u h
    change 0 < (tall t rs base + t r) g u at h
    rw [Pi.add_apply, Finsupp.add_apply] at h
    rcases Nat.eq_zero_or_pos (tall t rs base g u) with h0 | h0
    · exact ht r g u (by omega)
    · exact ih g u h0

/-- The copies owed of phase `p` lie above everything below their level. -/
theorem above_owedTo (n : ℕ) (c : Dev nD) (p : Fin 3) (h : n < 2 + p.val) (r : Fin 7) : Above n (owedTo c p r) :=
  above_at n _ _ _ (by unfold lv; rw [role_recv]; exact h)
/-- The signals owed lie above level `0`. -/
theorem above_owedBar (c : Dev nD) (r : Fin 7) : Above 0 (owedBar c r) :=
  above_at 0 _ _ _ (by unfold lv; rw [role_bar]; exact Nat.one_pos)

/-- Before the scatter's copies everything owed is above the second layer's arrivals. -/
theorem above_O3 (c : Dev nD) : Above 3 (O3 c) := above_tall _ _ _ (above_owedTo 3 c 2 (by decide)) (above_zero _) _
/-- Being above a level is being above the lower ones. -/
theorem above_mono {n k : ℕ} (h : n ≤ k) {O : CellTallies nD τ sig Unit} (hO : Above k O) : Above n O :=
  fun g u hg => ⟨(hO g u hg).1, lt_of_le_of_lt h (hO g u hg).2⟩
/-- Before the second layer's copies everything owed is above the first layer's arrivals. -/
theorem above_O2 (c : Dev nD) : Above 2 (O2 c) :=
  above_tall _ _ _ (above_owedTo 2 c 1 (by decide)) (above_mono (by decide) (above_O3 c)) _
/-- After the signals everything owed is above the barrier. -/
theorem above_O1 (c : Dev nD) : Above 1 (O1 c) :=
  above_tall _ _ _ (above_owedTo 1 c 0 (by decide)) (above_mono (by decide) (above_O2 c)) _
/-- At the start everything owed is above level `0`. -/
theorem above_O0 (c : Dev nD) : Above 0 (O0 c) :=
  above_tall _ _ _ (above_owedBar c) (above_mono (by decide) (above_O1 c)) _

/-- A device may wait on one of its semaphores whose level is at most `n` while everything it owes is above `n`. -/
theorem mayWait (c : Dev nD) (sm : SemLoc sig) (n : ℕ) (O : CellTallies nD τ sig Unit) (hs : lvOf (role sm) ≤ n) (hO : Above n O) :
    (levAts L lv : sProp 𝕄) ⊢ MayWait (c : Thread nD τ) sm () O :=
  MayOwe.of_cut (L := L) (lev := lv) n
    (fun p hp => by rw [Finset.mem_singleton.mp hp]; rw [L_tc]; exact Finset.mem_singleton_self _)
    (fun g u hg => by rw [show L g = {()} from if_pos (hO g u hg).1]; exact Finset.mem_singleton_self _)
    (fun p hp => by rw [Finset.mem_singleton.mp hp]; exact hs)
    (fun g u hg => (hO g u hg).2)

end Cert.KI

end
-- ==== Proof.KI.Contents.lean ====
/-
# What a copy, a load and a store do to the buffers' contents

Each buffer has one description of its final contents (`accF`, `rsF`, `ptF`), and every piece is owned at that
description as soon as it holds its block: a landed copy and a store agree with it on the piece they write, and a
load of a layer or of the scattered rows reads the gathered blocks off it.
-/
module

public import proofs.«01_k».proof.Proof.KI.Protocol

@[expose] public section

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] (I : Ins F)

local notation "𝕄" => MT nD τ sig Unit (Elt F) ℕ UU ℕ

/-- A layer's partial products. -/
def partA (l : Fin 2) : Dev nD → Vec F S1x1x128x128 .bf16 := if l.val = 0 then part0 I else part1 I

/-- The gathers' buffer at an index: the block of the device that many places back. -/
theorem accF_ix (c : Dev nD) (l : Fin 2) (o : Fin 8) (a b : Fin 128) :
    (accF I c : S2x8x128x128.Idx → Elt F .bf16) (ix4 l o a b) = partA I l (src c o) (ix4 (0 : Fin 1) (0 : Fin 1) a b) := rfl

/-- Slot `o` of layer `l` at one of its own indices: the block of the device `o` places back. -/
theorem accF_slot (c : Dev nD) (l : Fin 2) (o : Fin 8) (j : S128x128.Idx) :
    (accF I c : S2x8x128x128.Idx → Elt F .bf16) ((slotA l o).view.emb j) = partA I l (src c o) (ix4 (0 : Fin 1) (0 : Fin 1) (j 0) (j 1)) :=
  (congrArg (accF I c : S2x8x128x128.Idx → Elt F .bf16) (emb_slotA l o j)).trans (accF_ix I c l o (j 0) (j 1))

/-- A copy landed in the slot at offset `r` of layer `l`: the slot is as described. -/
theorem land_A (s : Dev nD) (l : Fin 2) (r : Fin 7) (fd : Buf (Elt F) ((rot s r : Thread nD τ).loc cc0_scratch0)) :
    ((slotA l r.succ).view.loc (rot s r : Thread nD τ) ↦[(slotA l r.succ).view.set]{fullShare}
      (slotA l r.succ).view.write (Elt F) fd ((slotA l 0).view.read (Elt F) (accF I s)) Finset.univ : sProp 𝕄)
      = aPts (rot s r) l r.succ fullShare (accF I (rot s r)) :=
  pointsTo_congr fun i hi => by
    rw [slotA_eq_emb l r.succ i hi]
    refine (View.write_emb_of_mem _ _ (h := Finset.mem_univ _)).trans ?_
    generalize (ix2 (i 2) (i 3) : S128x128.Idx) = j
    have h1 := accF_slot I (rot s r) l r.succ j
    rw [src_rot] at h1
    have h2 := accF_slot I s l 0 j
    rw [src_zero] at h2
    exact h2.trans h1.symm

/-- A copy landed in the scatter's slot at offset `r`: the slot is as described. -/
theorem land_R (s : Dev nD) (r : Fin 7) (fd : Buf (Elt F) ((rot s r : Thread nD τ).loc cc0_scratch1)) :
    ((slotR r.succ).view.loc (rot s r : Thread nD τ) ↦[(slotR r.succ).view.set]{fullShare}
      (slotR r.succ).view.write (Elt F) fd ((rowsM s r).view.read (Elt F) (ptF I s)) Finset.univ : sProp 𝕄)
      = sPts (rot s r) r.succ (rsF I (rot s r)) :=
  pointsTo_congr fun i hi => by
    rw [slotR_eq_emb r.succ i hi]
    refine (View.write_emb_of_mem _ _ (h := Finset.mem_univ _)).trans ?_
    generalize (ix2 (i 1) (i 2) : S16x128.Idx) = j
    have hr : (rsF I (rot s r) : S8x16x128.Idx → Elt F .bf16) ((slotR r.succ).view.emb j) = part2 I s (ix2 (rowAt (rot s r) (j 0)) (j 1)) := by
      rw [emb_slotR]
      show rowsOf I (src (rot s r) r.succ) (rot s r) (ix2 (j 0) (j 1)) = _
      rw [src_rot]; rfl
    have h : (rowsM s r).view.read (Elt F) (ptF I s) j = part2 I s ((rowsM s r).view.emb j) := rfl
    refine Eq.trans ?_ hr.symm
    rw [← emb_rowsM]
    exact h

/-- The rectangle of slot `0` of layer `l`, through which the kernel stores its own block. -/
abbrev rS (l : Fin 2) : Rect S2x8x128x128 := Rect.unit (s := S2x8x128x128) ![l.val, (0 : Fin 8).val, 0, 0] S1x1x128x128.size (acc_inb l 0)

/-- The store into slot `0` of layer `l` writes exactly that slot. -/
theorem rS_set (l : Fin 2) : ((accM.access (rS l) : View sig .tc _ _ _).set : Finset S2x8x128x128.Idx) = (slotA l 0).view.set :=
  (View.set_slice_whole _ _).trans ((View.set_reshape _ _).trans (View.set_slice_whole _ _)).symm

/-- Where an index of the stored block sits in the buffer. -/
theorem emb_rS (l : Fin 2) (k : S1x1x128x128.Idx) : (rS l).emb k = (ix4 l (0 : Fin 8) (k 2) (k 3) : S2x8x128x128.Idx) := by
  have h0 : (k 0).val = 0 := Nat.lt_one_iff.mp (k 0).isLt
  have h1 : (k 1).val = 0 := Nat.lt_one_iff.mp (k 1).isLt
  funext a
  apply Fin.ext
  rw [Rect.emb_apply]
  fin_cases a
  · simp [h0]
  · simp [h1]
  · simp
  · simp

/-- The store of a device's own block leaves slot `0` of the layer as described. -/
theorem store_A (c : Dev nD) (l : Fin 2) (f : Buf (Elt F) ((c : Thread nD τ).loc cc0_scratch0)) :
    ((accM.access (rS l) : View sig .tc _ _ _).loc (c : Thread nD τ) ↦[(slotA l 0).view.set]{fullShare}
      (accM.access (rS l) : View sig .tc _ _ _).write (Elt F) f (partA I l c) Finset.univ : sProp 𝕄)
      = aPts c l 0 fullShare (accF I c) :=
  pointsTo_congr fun i hi => by
    obtain ⟨h0, h1⟩ := (mem_slotA l 0 i).mp hi
    have he : i = (accM.access (rS l) : View sig .tc _ _ _).emb (ix4 (0 : Fin 1) (0 : Fin 1) (i 2) (i 3) : S1x1x128x128.Idx) := by
      refine Eq.trans ?_ (emb_rS l _).symm
      rw [← h0]
      exact (eq_ix4 i).trans (by rw [h1]; rfl)
    rw [he]
    refine (View.write_emb_of_mem _ _ (h := Finset.mem_univ _)).trans ?_
    have h2 := (congrArg (accF I c : S2x8x128x128.Idx → Elt F .bf16) (emb_rS l (ix4 (0 : Fin 1) (0 : Fin 1) (i 2) (i 3)))).trans
      (accF_ix I c l 0 (i 2) (i 3))
    rw [src_zero] at h2
    exact h2.symm

/-- Layer `l` as a rectangle. -/
theorem lay_inb (l : Fin 2) : ∀ a, (![l.val, 0, 0, 0] : Fin 4 → Nat) a + S1x8x128x128.size a ≤ S2x8x128x128.size a := by
  revert l; decide
/-- The rectangle of layer `l`, through which the kernel loads the gathered blocks. -/
abbrev rL (l : Fin 2) : Rect S2x8x128x128 := Rect.unit (s := S2x8x128x128) ![l.val, 0, 0, 0] S1x8x128x128.size (lay_inb l)

/-- The load of a layer stays inside it. -/
theorem rL_sub (l : Fin 2) : (accM.view.setOn (rL l).toLoadRect.set : Finset S2x8x128x128.Idx) ⊆ layer l := by
  intro i hi
  rw [show (accM.view.setOn (rL l).toLoadRect.set : Finset S2x8x128x128.Idx) = (rL l).set from Finset.map_refl] at hi
  rw [mem_layer]
  have h0 := Rect.mem_set_unit.mp hi 0
  simp at h0
  exact Fin.ext (by omega)

/-- The load of a layer reads the gathered blocks. -/
theorem load_A (c : Dev nD) (l : Fin 2) : accM.view.readAt (Elt F) (rL l).toLoadRect (accF I c) = gathered (partA I l) c := by
  funext k
  have h0 : (k 0).val = 0 := Nat.lt_one_iff.mp (k 0).isLt
  have he : (rL l).emb k = (ix4 l (k 1) (k 2) (k 3) : S2x8x128x128.Idx) := by
    funext a
    apply Fin.ext
    rw [Rect.emb_apply]
    fin_cases a
    · simp [h0]
    · simp
    · simp
    · simp
  exact (congrArg (accF I c : S2x8x128x128.Idx → Elt F .bf16) he).trans (accF_ix I c l (k 1) (k 2) (k 3))

/-- The elements of the scatter's seven arrival slots. -/
def restSet : Finset S8x16x128.Idx := Finset.univ.biUnion fun r : Fin 7 => (slotR r.succ).view.set

/-- The seven arrival slots owned together. -/
theorem rest_split (c : Dev nD) (f : Buf (Elt F) ((c : Thread nD τ).loc cc0_scratch1)) :
    (((c : Thread nD τ).loc cc0_scratch1) ↦[restSet]{fullShare} f : sProp 𝕄) = bigSepL offs fun r : Fin 7 => sPts c r.succ f := by
  have hd : ∀ x ∈ (Finset.univ : Finset (Fin 7)), ∀ y ∈ (Finset.univ : Finset (Fin 7)), x ≠ y →
      Disjoint (slotR x.succ).view.set (slotR y.succ).view.set := fun x _ y _ h => Finset.disjoint_left.mpr fun i hx hy =>
    h (Fin.succ_injective _ (((mem_slotR x.succ i).mp hx).symm.trans ((mem_slotR y.succ i).mp hy)))
  have h := seven_list (F := F) fun r : Fin 7 => sPts c r.succ f
  rw [← h]
  exact pointsTo_biUnion _ _ hd

/-- They are the elements outside slot `0`. -/
theorem mem_restSet (i : S8x16x128.Idx) (h : 1 ≤ (i 0).val) : i ∈ restSet := by
  have hl : (i 0).val < 8 := (i 0).isLt
  have hs : i 0 = Fin.succ (⟨(i 0).val - 1, by omega⟩ : Fin 7) := Fin.ext (by rw [Fin.val_succ]; exact (Nat.sub_add_cancel h).symm)
  exact Finset.mem_biUnion.mpr ⟨_, Finset.mem_univ _, (mem_slotR _ i).mpr hs⟩

/-- The load of the scattered rows stays inside the arrival slots. -/
theorem rRest_sub : (rsM.view.setOn rRest.toLoadRect.set : Finset S8x16x128.Idx) ⊆ restSet := by
  intro i hi
  have hi' : i ∈ rRest.set := by
    rw [show (rsM.view.setOn rRest.toLoadRect.set : Finset S8x16x128.Idx) = rRest.set from Finset.map_refl] at hi
    exact hi
  exact mem_restSet i (Rect.mem_set_unit.mp hi' 0).1

/-- The load of the scattered rows reads the peers' contributions. -/
theorem load_R (c : Dev nD) : rsM.view.readAt (Elt F) rRest.toLoadRect (rsF I c) = restOf I c := by
  funext k
  have he : rRest.emb k = (ix3 (Fin.succ (n := 7) (k 0)) (k 1) (k 2) : S8x16x128.Idx) := by
    funext a
    apply Fin.ext
    rw [Rect.emb_apply]
    fin_cases a
    · show 1 + 1 * (k 0).val = (k 0).val + 1
      omega
    · simp
    · simp
  show (rsF I c : S8x16x128.Idx → Elt F .bf16) (rRest.emb k) = _
  rw [he]
  rfl

/-- The load of a device's own rows stays inside them. -/
theorem rOwn_sub (c : Dev nD) : (ptM.view.setOn (rOwn c).toLoadRect.set : Finset S128x128.Idx) ⊆ rowSet c := by
  rw [show (ptM.view.setOn (rOwn c).toLoadRect.set : Finset S128x128.Idx) = (rOwn c).set from Finset.map_refl,
    rowSet_of_off c _ (k0_off2_eq c)]

/-- The load of a device's own rows reads them. -/
theorem load_own (c : Dev nD) : ptM.view.readAt (Elt F) (rOwn c).toLoadRect (ptF I c) = rowsOf I c c := by
  funext k
  have hoff := congrFun (k0_off2_eq c)
  have he : (rOwn c).emb k = (ix2 (rowAt c (k 0)) (k 1) : S128x128.Idx) := by
    funext a
    apply Fin.ext
    rw [Rect.emb_apply]
    fin_cases a
    · simp [hoff, rowAt]
    · simp [hoff]
  show part2 I c ((rOwn c).emb k) = _
  rw [he]
  rfl

/-- Both coordinates of the zero offset are zero. -/
theorem hz : (![0, 0] : Fin 2 → Nat) = fun _ => 0 := funext fun a => by fin_cases a <;> rfl

/-- The store of the last partial product. -/
theorem store_pt (f w : (cc0_scratch2 : Ref sig .tc).ty.Contents (Elt F)) :
    (ptM.access rX : View sig .tc _ _ _).write (Elt F) f w Finset.univ = w :=
  Memref.write_access_unit_zero_univ (Elt F) cc0_scratch2 hz _ f w
/-- The store of the output. -/
theorem store_out (f w : (cc0_stg7_0 : Ref sig .tc).ty.Contents (Elt F)) :
    (oM.access rO : View sig .tc _ _ _).write (Elt F) f w Finset.univ = w :=
  Memref.write_access_unit_zero_univ (Elt F) cc0_stg7_0 hz _ f w

end Cert.KI

end
-- ==== Proof.KI.Steps.lean ====
/-
# One rule per kind of step, and the loops by induction

Each signal, copy and wait of the kernel is proved once for any offset; `wp_each` turns such a rule into the rule for
the whole loop over the offsets. What the rules hold on to throughout is persistent (`records`): every cell's
invariant, that its round `0` is open, and the levels.
-/
module

public import proofs.«01_k».proof.Proof.KI.Contents

@[expose] public section

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] (I : Ins F)

local notation "𝕄" => MT nD τ sig Unit (Elt F) ℕ UU ℕ

/-- No variants. -/
abbrev 𝒱₀ : Variants := Variants.none

/-- The body's programs run from device `c`'s TensorCore. -/
abbrev WP (c : Dev nD) (e : Body F) (Q : PUnit → sProp 𝕄) : sProp 𝕄 :=
  wp frame (wpE (defs₀ (F := F)) 𝒱₀ (c : Thread nD τ) none) Set.univ e Q

/-- What every device knows throughout: the levels, each cell's invariant, and that each cell's round `0` is open. -/
def records (K : Dev nD × Cell → ℕ) : sProp 𝕄 :=
  iprop(levAts L lv ∗ (bigSep Finset.univ fun ck : Dev nD × Cell => cellInv ER (sched I) (K ck) (kcell ck))
    ∗ bigSep Finset.univ fun ck : Dev nD × Cell => reached ER (kcell ck) 0)

instance records_persistent (K : Dev nD × Cell → ℕ) : BI.Persistent (records I K) := by unfold records; infer_instance

/-- The levels. -/
theorem rec_lev (K : Dev nD × Cell → ℕ) : records I K ⊢ levAts L lv := by
  unfold records; iintro ⟨H, -, -⟩; iexact H
/-- One of all the cells' invariants. -/
theorem inv_one (K : Dev nD × Cell → ℕ) (ck : Dev nD × Cell) :
    (bigSep Finset.univ fun ck : Dev nD × Cell => (cellInv ER (sched I) (K ck) (kcell ck) : sProp 𝕄)) ⊢ cellInv ER (sched I) (K ck) (kcell ck) :=
  bigSep_elim (Finset.mem_univ ck)
/-- One of all the cells' open rounds. -/
theorem reached_one (ck : Dev nD × Cell) :
    (bigSep Finset.univ fun ck : Dev nD × Cell => (reached ER (kcell ck) 0 : sProp 𝕄)) ⊢ reached ER (kcell ck) 0 :=
  bigSep_elim (Finset.mem_univ ck)
/-- A cell's invariant. -/
theorem rec_inv (K : Dev nD × Cell → ℕ) (ck : Dev nD × Cell) : records I K ⊢ cellInv ER (sched I) (K ck) (kcell ck) := by
  unfold records; iintro ⟨-, H, -⟩; iapply (inv_one I K ck); iexact H
/-- A cell's round `0` is open. -/
theorem rec_reached (K : Dev nD × Cell → ℕ) (ck : Dev nD × Cell) : records I K ⊢ reached ER (kcell ck) 0 := by
  unfold records; iintro ⟨-, -, H⟩; iapply (reached_one (F := F) ck); iexact H

/-- What device `c` owes, whatever it has waited for. -/
def ow (c : Dev nD) (O : CellTallies nD τ sig Unit) : sProp 𝕄 := iprop(∃ W, owes (c : Thread nD τ) O W)

/-- A rule for one offset's step is a rule for the loop over a list of offsets. -/
theorem wp_each (c : Dev nD) (R : sProp 𝕄) [BI.Persistent R] (op : Fin 7 → Body F → Body F) (A B : Fin 7 → sProp 𝕄)
    (X : List (Fin 7) → sProp 𝕄) (Q : PUnit → sProp 𝕄)
    (h : ∀ r rs k, iprop(R ∗ A r ∗ X (r :: rs)) ⊢ iprop(((B r ∗ X rs) -∗ WP c k Q) -∗ WP c (op r k) Q)) (k : Body F) :
    ∀ rs : List (Fin 7), iprop(R ∗ bigSepL rs A ∗ X rs) ⊢ iprop(((bigSepL rs B ∗ X []) -∗ WP c k Q) -∗ WP c (rs.foldr op k) Q)
  | [] => by
    iintro ⟨-, -, HX⟩ Hk
    iapply Hk
    isplitr
    · rw [bigSepL_nil]; iempintro
    iexact HX
  | r :: rs => by
    rw [bigSepL_cons', bigSepL_cons']
    iintro ⟨#HR, ⟨HA, HAs⟩, HX⟩ Hk
    iapply (h r rs (rs.foldr op k)) $$ [HA HX]
    · isplitr; · iexact HR
      isplitl [HA] <;> iassumption
    iintro ⟨HB, HX⟩
    iapply (wp_each c R op A B X Q h k rs) $$ [HAs HX]
    · isplitr; · iexact HR
      isplitl [HAs] <;> iassumption
    iintro ⟨HBs, HX⟩
    iapply Hk
    isplitl [HB HBs]
    · isplitl [HB] <;> iassumption
    iexact HX

/-! ## The barrier -/

/-- The barrier has every one of its seven duties. -/
theorem mem_bar (c : Dev nD) (d : Fin 7) : d ∈ (sched I).duties (barC c) 0 := by
  rw [duties_cell, role_bar]; exact Finset.mem_univ _
/-- A departure's cell has its one duty. -/
theorem mem_send (c : Dev nD) (p : Fin 3) (r : Fin 7) : (0 : Fin 7) ∈ (sched I).duties (sendC c p r) 0 := by
  rw [duties_cell, role_send]; exact Finset.mem_singleton_self _
/-- An arrival's cell has its one duty. -/
theorem mem_recv (c : Dev nD) (p : Fin 3) (r : Fin 7) : (0 : Fin 7) ∈ (sched I).duties (recvC c p r) 0 := by
  rw [duties_cell, role_recv]; exact Finset.mem_singleton_self _
/-- A departure counts its copy. -/
theorem amount_send (c : Dev nD) (p : Fin 3) (r : Fin 7) : (sched I).amount (sendC c p r) 0 0 = amt p := by
  show amountOf (role (csem (some (false, p, r.succ)))) = _; rw [role_send]; rfl
/-- An arrival counts its copy. -/
theorem amount_recv (c : Dev nD) (p : Fin 3) (r : Fin 7) : (sched I).amount (recvC c p r) 0 0 = amt p := by
  show amountOf (role (csem (some (true, p, r.succ)))) = _; rw [role_recv]; rfl
/-- A signal counts one. -/
theorem amount_bar (c : Dev nD) (d : Fin 7) : (sched I).amount (barC c) 0 d = 1 := by
  show amountOf (role (csem none)) = _; rw [role_bar]; rfl

/-- One signal: the peer is handed the slots it will write into. -/
theorem wp_sig (K : Dev nD × Cell → ℕ) (c : Dev nD) (r : Fin 7) (O : CellTallies nD τ sig Unit) (k : Body F) (Q : PUnit → sProp 𝕄) :
    iprop(records I K ∗ (dutyTok ER (barC (rot c r)) 0 (Fin.rev r) ∗ slotsOf c (Fin.rev r)) ∗ ow c (O + owedBar c r))
      ⊢ iprop(((emp ∗ ow c O) -∗ WP c k Q) -∗ WP c (.op (.semSignal (sigDev c r, .tc) barS (1#32).toInt) fun _ => k) Q) := by
  have hpay : slotsOf c (Fin.rev r) ⊢ (sched I).payload ((rot c r : Thread nD τ), SemLoc.reg barS) 0 (Fin.rev r) :=
    Entails.of_eq ((payload_bar I (rot c r) (Fin.rev r)).trans (by rw [rot_rev])).symm
  rw [sigDev_eq]
  unfold ow
  iintro ⟨#HR, ⟨Ht, Hs⟩, ⟨%W, HO⟩⟩ Hk
  iapply (Rounds.wp_signal 𝒱₀ ER (sched I) (c : Thread nD τ) none (dst := (rot c r : Thread nD τ)) (κ := K (rot c r, none)) (r := 0) (d := Fin.rev r)
      (mem_bar I (rot c r) _)
      (amount_bar I (rot c r) _)
      () O rfl) $$ [HO Ht Hs]
  · isplitr; · iapply (rec_inv I K (rot c r, none)); iexact HR
    isplitl [HO]; · iexact HO
    isplitl [Ht]; · iexact Ht
    isplitl [Hs]
    · iapply hpay
      iexact Hs
    iapply (rec_reached I K (rot c r, none)); iexact HR
  iintro HO
  iapply Hk
  isplitr; · iempintro
  iexists W; iexact HO

/-- The seven signals. -/
theorem wp_sigs (K : Dev nD × Cell → ℕ) (c : Dev nD) (base : CellTallies nD τ sig Unit) (k : Body F) (Q : PUnit → sProp 𝕄) :
    iprop(records I K ∗ (bigSepL offs fun r => iprop(dutyTok ER (barC (rot c r)) 0 (Fin.rev r) ∗ slotsOf c (Fin.rev r))) ∗ ow c (tall (owedBar c) offs base))
      ⊢ iprop((((bigSepL offs fun _ => iprop(emp)) ∗ ow c base) -∗ WP c k Q) -∗ WP c (signals c offs k) Q) :=
  wp_each c (records I K) (fun r k => .op (.semSignal (sigDev c r, .tc) barS (1#32).toInt) fun _ => k) _ _
    (fun rs => ow c (tall (owedBar c) rs base)) Q (fun r rs k => wp_sig I K c r (tall (owedBar c) rs base) k Q) k offs

/-- The wait for the seven peers: every slot this device will write into is now its own. -/
theorem wp_bar (K : Dev nD × Cell → ℕ) (c : Dev nD) (k : Body F) (Q : PUnit → sProp 𝕄) :
    iprop(records I K ∗ cred (tallyAt (barC c) () 7) ∗ atPos ER (barC c) 0 ∅ 0 ∗ ow c (O1 c))
      ⊢ iprop(((semVal (barC c) 0 ∗ (bigSepL offs fun r => slotsOf (rot c r) r) ∗ ow c (O1 c)) -∗ WP c k Q)
          -∗ WP c (.op (.semWait barS (7#32).toInt) fun _ => k) Q) := by
  unfold ow
  iintro ⟨#HR, Hc, Hat, ⟨%W, HO⟩⟩ Hk
  iapply (Rounds.wp_wait_rest_token 𝒱₀ ER (sched I) (c : Thread nD τ) none (κ := K (c, none))
      (wpE_semWait_eq 𝒱₀ (c : Thread nD τ) none Set.univ) (Set.mem_univ _) () (O := O1 c) (W := W) (R := 0) (m := 0) (T := ∅)
      ((expect_bar I c).symm ▸ by decide)) $$ [Hc HO Hat]
  · isplitr; · iapply (rec_inv I K (c, none)); iexact HR
    isplitl [Hc]; · iexact Hc
    isplitl [HO]; · iexact HO
    isplitr
    · iapply (mayWait c (.reg barS) 1 (O1 c) (by decide +kernel) (above_O1 c))
      iapply (rec_lev I K); iexact HR
    iexact Hat
  iintro ⟨HO, Hat, -, Hpay⟩
  imod (Rounds.cell_close ER (sched I) (Set.mem_univ (K (c, none))) (fun h => h) (R := 0 + 1) (duties_later I (barC c))) $$ [Hat] with Hz
  · isplitr; · iapply (rec_inv I K (c, none)); iexact HR
    iexact Hat
  iapply Hk
  isplitl [Hz]; · iexact Hz
  isplitl [Hpay]
  · iapply (Entails.of_eq (show bigSep ((sched I).duties (barC c) 0 \ ∅) (fun d => (sched I).payload (barC c) 0 d) = bigSepL offs fun r => slotsOf (rot c r) r from by
      rw [Finset.sdiff_empty, duties_cell I c none, role_bar, ← seven_list]
      exact bigSep_congr fun d _ => payload_bar I c d))
    iexact Hpay
  iexists _; iexact HO

/-! ## The copies -/

/-- A copy that reads what device `c` owns and writes a slot it owns at the peer `r + 1` places on. -/
theorem wp_copy (K : Dev nD × Cell → ℕ) (c : Dev nD) (p : Fin 3) (r : Fin 7) {sh : Shape} {e : EltTy}
    (s : Memref sig .tc .vmem sh e) (d : Memref sig .tc .vmem sh e) (hs : s.view.WordExact) (hd : d.view.WordExact)
    (ht : DmaTarget.Typed .vmem (.dma (recvS p r.succ)) (.remote (rot c r).tc d (.dma (sendS p r.succ))))
    (q : PosShare TreeShare) (fs : Buf (Elt F) (s.view.loc (c : Thread nD τ))) (fd : Buf (Elt F) (d.view.loc (rot c r : Thread nD τ)))
    (hN : d.view.amount (.dma (recvS p r.succ)) = amt p)
    (h₁ : (s.view.loc (c : Thread nD τ) ↦[s.view.set]{q} fs : sProp 𝕄) ⊢ sendPay I c p r)
    (h₂ : (d.view.loc (rot c r : Thread nD τ) ↦[d.view.set]{fullShare} (d.view.write (Elt F) fd (s.view.read (Elt F) fs) Finset.univ) : sProp 𝕄)
      ⊢ recvPay I (rot c r) p r)
    (O : CellTallies nD τ sig Unit) (k : Body F) (Q : PUnit → sProp 𝕄) :
    iprop(records I K ∗ ((s.view.loc (c : Thread nD τ) ↦[s.view.set]{q} fs) ∗ (d.view.loc (rot c r : Thread nD τ) ↦[d.view.set]{fullShare} fd)
        ∗ dutyTok ER (sendC c p r) 0 0 ∗ dutyTok ER (recvC (rot c r) p r) 0 0) ∗ ow c (O + owedTo c p r))
      ⊢ iprop(((cred (tallyAt (sendC c p r) () (amt p)) ∗ ow c O) -∗ WP c k Q)
          -∗ WP c (.op (.enqueueDma s (.remote (rot c r).tc d (.dma (sendS p r.succ))) (.dma (recvS p r.succ)) hs hd ht) fun _ => k) Q) := by
  unfold ow
  iintro ⟨#HR, ⟨Hs, Hd, Ht1, Ht2⟩, ⟨%W, HO⟩⟩ Hk
  iapply (Rounds.wp_send_pointsTo 𝒱₀ ER (sched I) (c : Thread nD τ) none (c' := (rot c r : Thread nD τ)) (κ₁ := K (c, some (false, p, r.succ)))
      (κ₂ := K (rot c r, some (true, p, r.succ))) (r₁ := 0) (r₂ := 0) (d₁ := 0) (d₂ := 0) (fs := fs) (fd := fd) (q := q)
      (mem_send I c p r) (mem_recv I (rot c r) p r) () () (amt p) hN (amount_send I c p r) (amount_recv I (rot c r) p r) O rfl
      (h₁.trans (Entails.of_eq (payload_send I c p r 0).symm)) (h₂.trans (Entails.of_eq (payload_recv I (rot c r) p r 0).symm))) $$ [HO Hs Hd Ht1 Ht2]
  · isplitr; · iapply (rec_inv I K (c, some (false, p, r.succ))); iexact HR
    isplitr; · iapply (rec_inv I K (rot c r, some (true, p, r.succ))); iexact HR
    isplitl [Hs]; · iexact Hs
    isplitl [Hd]; · iexact Hd
    isplitl [HO]; · iexact HO
    isplitl [Ht1]; · iexact Ht1
    isplitr; · iapply (rec_reached I K (c, some (false, p, r.succ))); iexact HR
    isplitl [Ht2]; · iexact Ht2
    iapply (rec_reached I K (rot c r, some (true, p, r.succ))); iexact HR
  iintro ⟨Hc, HO⟩
  iapply Hk
  isplitl [Hc]; · iexact Hc
  iexists W; iexact HO

/-- The two tokens of phase `p`'s copy at offset `r`: its departure's and its arrival's. -/
def copyToks (c : Dev nD) (p : Fin 3) (r : Fin 7) : sProp 𝕄 :=
  iprop(dutyTok ER (sendC c p r) 0 0 ∗ dutyTok ER (recvC (rot c r) p r) 0 0)

/-- One copy of layer `l`'s own block. -/
theorem wp_sendA (K : Dev nD × Cell → ℕ) (c : Dev nD) (l : Fin 2) (r : Fin 7) (O : CellTallies nD τ sig Unit) (k : Body F) (Q : PUnit → sProp 𝕄) :
    iprop(records I K ∗ (aPts c l 0 (shr r.succ) (accF I c) ∗ (∃ f, aPts (rot c r) l r.succ fullShare f) ∗ copyToks c l.castSucc r)
        ∗ ow c (O + owedTo c l.castSucc r))
      ⊢ iprop(((cred (tallyAt (sendC c l.castSucc r) () (amt l.castSucc)) ∗ ow c O) -∗ WP c k Q)
          -∗ WP c (.op (.enqueueDma (slotA l 0) (.remote (Dev.tc (sendDev c l.castSucc r)) (slotA l r.succ) (.dma (sendS l.castSucc r.succ)))
            (.dma (recvS l.castSucc r.succ)) (slotA_exact l 0) (slotA_exact l r.succ) ⟨⟨rfl, Or.inl rfl⟩, trivial⟩) fun _ => k) Q) := by
  have hl : l.castSucc.val < 2 := l.isLt
  have hN : (slotA l r.succ).view.amount (.dma (recvS l.castSucc r.succ)) = amt l.castSucc := by unfold amt; rw [if_pos hl]; rfl
  rw [sendDev_eq]
  unfold copyToks aPts
  iintro ⟨#HR, ⟨Hs, ⟨%fd, Hd⟩, Ht⟩, HO⟩
  iapply (wp_copy I K c l.castSucc r (slotA l 0) (slotA l r.succ) (slotA_exact l 0) (slotA_exact l r.succ) ⟨⟨rfl, Or.inl rfl⟩, trivial⟩ (shr r.succ) (accF I c) fd
    hN (Entails.of_eq (by unfold sendPay; rw [dif_pos hl]; rfl))
    (Entails.of_eq ((land_A I c l r fd).trans (by unfold recvPay; rw [dif_pos hl]; rfl))) O k Q) $$ [Hs Hd Ht HO]
  isplitr; · iexact HR
  isplitl [Hs Hd Ht]
  · isplitl [Hs]; · iexact Hs
    isplitl [Hd]; · iexact Hd
    iexact Ht
  iexact HO

/-- One copy of a peer's rows. -/
theorem wp_sendR (K : Dev nD × Cell → ℕ) (c : Dev nD) (r : Fin 7) (O : CellTallies nD τ sig Unit) (k : Body F) (Q : PUnit → sProp 𝕄) :
    iprop(records I K ∗ (pPts c (rot c r) (ptF I c) ∗ (∃ f, sPts (rot c r) r.succ f) ∗ copyToks c 2 r) ∗ ow c (O + owedTo c 2 r))
      ⊢ iprop(((cred (tallyAt (sendC c 2 r) () (amt 2)) ∗ ow c O) -∗ WP c k Q)
          -∗ WP c (.op (.enqueueDma (rowsM c r) (.remote (Dev.tc (sendDev c 2 r)) (slotR r.succ) (.dma (sendS 2 r.succ)))
            (.dma (recvS 2 r.succ)) (rowsM_exact c r) (slotR_exact r.succ) ⟨⟨rfl, Or.inl rfl⟩, trivial⟩) fun _ => k) Q) := by
  have hp : ((rowsM c r).view.loc (c : Thread nD τ) ↦[(rowsM c r).view.set]{fullShare} ptF I c : sProp 𝕄) = pPts c (rot c r) (ptF I c) := by
    rw [rowsM_set]; rfl
  rw [sendDev_eq]
  unfold copyToks sPts
  iintro ⟨#HR, ⟨Hs, ⟨%fd, Hd⟩, Ht⟩, HO⟩
  iapply (wp_copy I K c 2 r (rowsM c r) (slotR r.succ) (rowsM_exact c r) (slotR_exact r.succ) ⟨⟨rfl, Or.inl rfl⟩, trivial⟩ fullShare (ptF I c) fd
    rfl (Entails.of_eq hp) (Entails.of_eq (land_R I c r fd)) O k Q) $$ [Hs Hd Ht HO]
  isplitr; · iexact HR
  isplitl [Hs Hd Ht]
  · isplitl [Hs]
    · iapply (Entails.of_eq hp.symm); iexact Hs
    isplitl [Hd]; · iexact Hd
    iexact Ht
  iexact HO

/-! ## The waits for a copy -/

/-- A wait for a copy's departure: what was lent is back, and the cell is finished with. -/
theorem wp_sent (K : Dev nD × Cell → ℕ) (c : Dev nD) (p : Fin 3) (r : Fin 7) {sh sh' : Shape} {e e' : EltTy}
    (s : Memref sig .tc .vmem sh e) (d : Memref sig .tc .vmem sh' e') (hs : s.view.WordExact) (hd : d.view.WordExact)
    (hN : d.view.dmaCredit = amt p) (O : CellTallies nD τ sig Unit) (hO : Above 0 O) (k : Body F) (Q : PUnit → sProp 𝕄) :
    iprop(records I K ∗ (cred (tallyAt (sendC c p r) () (amt p)) ∗ atPos ER (sendC c p r) 0 ∅ 0) ∗ ow c O)
      ⊢ iprop((((semVal (sendC c p r) 0 ∗ sendPay I c p r) ∗ ow c O) -∗ WP c k Q)
          -∗ WP c (.op (.waitDma2 (sendS p r.succ) s d hs hd) fun _ => k) Q) := by
  unfold ow
  iintro ⟨#HR, ⟨Hc, Hat⟩, ⟨%W, HO⟩⟩ Hk
  iapply (Rounds.wp_wait_rest_token 𝒱₀ ER (sched I) (c : Thread nD τ) none (κ := K (c, some (false, p, r.succ)))
      (wpE_waitDma2_eq 𝒱₀ (c : Thread nD τ) none Set.univ) (Set.mem_univ _) () (O := O) (W := W) (R := 0) (m := 0) (T := ∅)
      ((Nat.zero_add _).trans (hN.trans (expect_send I c p r).symm))) $$ [Hc HO Hat]
  · isplitr; · iapply (rec_inv I K (c, some (false, p, r.succ))); iexact HR
    isplitl [Hc]; · rw [hN]; iexact Hc
    isplitl [HO]; · iexact HO
    isplitr
    · iapply (mayWait c (csem (some (false, p, r.succ))) 0 O (by rw [role_send]; exact Nat.le_refl 0) hO)
      iapply (rec_lev I K); iexact HR
    iexact Hat
  iintro ⟨HO, Hat, -, Hpay⟩
  imod (Rounds.cell_close ER (sched I) (Set.mem_univ (K (c, some (false, p, r.succ)))) (fun h => h) (R := 0 + 1) (duties_later I (sendC c p r))) $$ [Hat] with Hz
  · isplitr; · iapply (rec_inv I K (c, some (false, p, r.succ))); iexact HR
    iexact Hat
  iapply Hk
  isplitl [Hz Hpay]
  · isplitl [Hz]; · iexact Hz
    iapply (Entails.of_eq (show bigSep ((sched I).duties (sendC c p r) 0 \ ∅) (fun d => (sched I).payload (sendC c p r) 0 d) = sendPay I c p r from by
      rw [Finset.sdiff_empty, duties_cell, role_send]
      exact bigSep_singleton.trans (payload_send I c p r 0)))
    iexact Hpay
  iexists _; iexact HO

/-- A wait for a copy's arrival: the slot is back with the peer's block in it, and the cell is finished with. -/
theorem wp_arrived (K : Dev nD × Cell → ℕ) (c : Dev nD) (p : Fin 3) (r : Fin 7) {sh sh' : Shape} {e e' : EltTy}
    (s : Memref sig .tc .vmem sh e) (d : Memref sig .tc .vmem sh' e') (hs : s.view.WordExact) (hd : d.view.WordExact)
    (hN : d.view.dmaCredit = amt p) (O : CellTallies nD τ sig Unit) (hO : Above (2 + p.val) O) (k : Body F) (Q : PUnit → sProp 𝕄) :
    iprop(records I K ∗ (cred (tallyAt (recvC c p r) () (amt p)) ∗ atPos ER (recvC c p r) 0 ∅ 0) ∗ ow c O)
      ⊢ iprop((((semVal (recvC c p r) 0 ∗ recvPay I c p r) ∗ ow c O) -∗ WP c k Q)
          -∗ WP c (.op (.waitDma2 (recvS p r.succ) s d hs hd) fun _ => k) Q) := by
  unfold ow
  iintro ⟨#HR, ⟨Hc, Hat⟩, ⟨%W, HO⟩⟩ Hk
  iapply (Rounds.wp_wait_rest_token 𝒱₀ ER (sched I) (c : Thread nD τ) none (κ := K (c, some (true, p, r.succ)))
      (wpE_waitDma2_eq 𝒱₀ (c : Thread nD τ) none Set.univ) (Set.mem_univ _) () (O := O) (W := W) (R := 0) (m := 0) (T := ∅)
      ((Nat.zero_add _).trans (hN.trans (expect_recv I c p r).symm))) $$ [Hc HO Hat]
  · isplitr; · iapply (rec_inv I K (c, some (true, p, r.succ))); iexact HR
    isplitl [Hc]; · rw [hN]; iexact Hc
    isplitl [HO]; · iexact HO
    isplitr
    · iapply (mayWait c (csem (some (true, p, r.succ))) (2 + p.val) O (by rw [role_recv]; exact Nat.le_refl _) hO)
      iapply (rec_lev I K); iexact HR
    iexact Hat
  iintro ⟨HO, Hat, -, Hpay⟩
  imod (Rounds.cell_close ER (sched I) (Set.mem_univ (K (c, some (true, p, r.succ)))) (fun h => h) (R := 0 + 1) (duties_later I (recvC c p r))) $$ [Hat] with Hz
  · isplitr; · iapply (rec_inv I K (c, some (true, p, r.succ))); iexact HR
    iexact Hat
  iapply Hk
  isplitl [Hz Hpay]
  · isplitl [Hz]; · iexact Hz
    iapply (Entails.of_eq (show bigSep ((sched I).duties (recvC c p r) 0 \ ∅) (fun d => (sched I).payload (recvC c p r) 0 d) = recvPay I c p r from by
      rw [Finset.sdiff_empty, duties_cell, role_recv]
      exact bigSep_singleton.trans (payload_recv I c p r 0)))
    iexact Hpay
  iexists _; iexact HO

end Cert.KI

end
-- ==== Proof.KI.Phases.lean ====
/-
# The phases, each from what it needs to what it leaves

The two gathers are one lemma in the layer (`wp_gather`), the scatter another (`wp_scatter`), and the body is the
barrier followed by the three with the loads and stores between them (`wp_loops`).
-/
module

public import proofs.«01_k».proof.Proof.KI.Steps

@[expose] public section

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] (I : Ins F)

local notation "𝕄" => MT nD τ sig Unit (Elt F) ℕ UU ℕ

omit [FloatOps F] in
/-- Seven pairs are two sevens. -/
theorem list_sep (A B : Fin 7 → sProp 𝕄) : (bigSepL offs fun r => iprop(A r ∗ B r)) = iprop(bigSepL offs A ∗ bigSepL offs B) := by
  rw [← seven_list, ← seven_list, ← seven_list, bigSep_sep']

omit [FloatOps F] in
/-- Seven taken in the mirrored order are the same seven. -/
theorem list_rev (A : Fin 7 → sProp 𝕄) : (bigSepL offs fun r => A (Fin.rev r)) = bigSepL offs A := by
  rw [← seven_list, ← seven_list]
  exact (bigSep_univ_equiv Fin.revPerm A).symm

/-- What a phase starts from: its copies' tokens, the credit for what arrives, and its cells' positions. -/
def phaseRes (c : Dev nD) (p : Fin 3) : sProp 𝕄 :=
  iprop((bigSepL offs fun r => copyToks c p r) ∗ (bigSepL offs fun r => atPos ER (sendC c p r) 0 ∅ 0)
    ∗ (bigSepL offs fun r => cred (tallyAt (recvC c p r) () (amt p))) ∗ bigSepL offs fun r => atPos ER (recvC c p r) 0 ∅ 0)
/-- What a phase leaves of its cells: their counters at zero. -/
def phaseEnd (c : Dev nD) (p : Fin 3) : sProp 𝕄 :=
  iprop((bigSepL offs fun r => semVal (sendC c p r) 0) ∗ bigSepL offs fun r => semVal (recvC c p r) 0)

/-- The gather of layer `l`: a device's own block and its peers' slots make every slot of the layer as described. -/
theorem wp_gather (K : Dev nD × Cell → ℕ) (c : Dev nD) (l : Fin 2) (base : CellTallies nD τ sig Unit) (hb : Above (2 + l.val) base)
    (k : Body F) (Q : PUnit → sProp 𝕄) :
    iprop(records I K ∗ aPts c l 0 fullShare (accF I c) ∗ (bigSepL offs fun r => iprop(∃ f, aPts (rot c r) l r.succ fullShare f))
        ∗ phaseRes c l.castSucc ∗ ow c (tall (owedTo c l.castSucc) offs base))
      ⊢ iprop((((((c : Thread nD τ).loc cc0_scratch0) ↦[layer l]{fullShare} accF I c) ∗ phaseEnd c l.castSucc ∗ ow c base) -∗ WP c k Q)
          -∗ WP c (sendsA c l offs <| recvsA l offs <| sentsA l offs k) Q) := by
  have hl : l.castSucc.val < 2 := l.isLt
  have hN : ∀ o, (slotA l o).view.dmaCredit = amt l.castSucc := fun o => by unfold amt; rw [if_pos hl]; rfl
  unfold phaseRes phaseEnd
  rw [own_split]
  iintro ⟨#HR, ⟨H0, Hs⟩, Hd, ⟨Ht, Has, Hcr, Har⟩, HO⟩ Hk
  iapply (wp_each c (records I K) (fun r k => .op (.enqueueDma (slotA l 0) (.remote (Dev.tc (sendDev c l.castSucc r)) (slotA l r.succ) (.dma (sendS l.castSucc r.succ)))
      (.dma (recvS l.castSucc r.succ)) (slotA_exact l 0) (slotA_exact l r.succ) ⟨⟨rfl, Or.inl rfl⟩, trivial⟩) fun _ => k) _ _
    (fun rs => ow c (tall (owedTo c l.castSucc) rs base)) Q (fun r rs k => wp_sendA I K c l r (tall (owedTo c l.castSucc) rs base) k Q) _ offs) $$ [Hs Hd Ht HO]
  · isplitr; · iexact HR
    isplitl [Hs Hd Ht]
    · rw [list_sep, list_sep]
      isplitl [Hs]; · iexact Hs
      isplitl [Hd] <;> iassumption
    iexact HO
  iintro ⟨Hcs, HO⟩
  iapply (wp_each c (records I K) (fun r k => .op (.waitDma2 (recvS l.castSucc r.succ) (slotA l 0) (slotA l r.succ) (slotA_exact l 0) (slotA_exact l r.succ)) fun _ => k) _ _
    (fun _ => ow c base) Q (fun r rs k => wp_arrived I K c l.castSucc r (slotA l 0) (slotA l r.succ) (slotA_exact l 0) (slotA_exact l r.succ) (hN _) base hb k Q) _ offs) $$ [Hcr Har HO]
  · isplitr; · iexact HR
    isplitl [Hcr Har]
    · rw [list_sep]
      isplitl [Hcr] <;> iassumption
    iexact HO
  rw [list_sep]
  iintro ⟨⟨Hzr, Hr⟩, HO⟩
  iapply (wp_each c (records I K) (fun r k => .op (.waitDma2 (sendS l.castSucc r.succ) (slotA l r.succ) (slotA l 0) (slotA_exact l r.succ) (slotA_exact l 0)) fun _ => k) _ _
    (fun _ => ow c base) Q (fun r rs k => wp_sent I K c l.castSucc r (slotA l r.succ) (slotA l 0) (slotA_exact l r.succ) (slotA_exact l 0) (hN _) base
      (above_mono (Nat.zero_le _) hb) k Q) k offs) $$ [Hcs Has HO]
  · isplitr; · iexact HR
    isplitl [Hcs Has]
    · rw [list_sep]
      isplitl [Hcs] <;> iassumption
    iexact HO
  rw [list_sep]
  iintro ⟨⟨Hzs, Hs⟩, HO⟩
  iapply Hk
  isplitl [H0 Hs Hr]
  · rw [layer_split, eight_split, own_split]
    isplitl [H0 Hs]
    · isplitl [H0]; · iexact H0
      iapply (Entails.of_eq (show (bigSepL offs fun r => sendPay I c l.castSucc r) = bigSepL offs fun r : Fin 7 => aPts c l 0 (shr r.succ) (accF I c) from
        congrArg _ (funext fun r => by unfold sendPay; rw [dif_pos hl]; rfl)))
      iexact Hs
    · iapply (Entails.of_eq (show (bigSepL offs fun r => recvPay I c l.castSucc r) = bigSepL offs fun r : Fin 7 => aPts c l r.succ fullShare (accF I c) from
        congrArg _ (funext fun r => by unfold recvPay; rw [dif_pos hl]; rfl)))
      iexact Hr
  isplitl [Hzs Hzr]
  · isplitl [Hzs] <;> iassumption
  iexact HO

/-- The scatter: the partial product's rows dealt out and lent back, the peers' contributions arrived. -/
theorem wp_scatter (K : Dev nD × Cell → ℕ) (c : Dev nD) (k : Body F) (Q : PUnit → sProp 𝕄) :
    iprop(records I K ∗ (((c : Thread nD τ).loc cc0_scratch2) ↦{fullShare} ptF I c) ∗ (bigSepL offs fun r => iprop(∃ f, sPts (rot c r) r.succ f))
        ∗ phaseRes c 2 ∗ ow c (O3 c))
      ⊢ iprop((((((c : Thread nD τ).loc cc0_scratch2) ↦{fullShare} ptF I c) ∗ (((c : Thread nD τ).loc cc0_scratch1) ↦[restSet]{fullShare} rsF I c)
            ∗ phaseEnd c 2 ∗ ow c 0) -∗ WP c k Q)
          -∗ WP c (sendsR c offs <| recvsR c offs <| sentsR c offs k) Q) := by
  have hpt : ((((c : Thread nD τ).loc cc0_scratch2) ↦{fullShare} ptF I c) : sProp 𝕄)
      = iprop(pPts c (around c 0) (ptF I c) ∗ bigSepL offs fun r : Fin 7 => pPts c (rot c r) (ptF I c)) := by
    rw [pt_split, eight_split]
    simp only [around_succ]
  unfold phaseRes phaseEnd
  rw [hpt]
  iintro ⟨#HR, ⟨H0, Hs⟩, Hd, ⟨Ht, Has, Hcr, Har⟩, HO⟩ Hk
  iapply (wp_each c (records I K) (fun r k => .op (.enqueueDma (rowsM c r) (.remote (Dev.tc (sendDev c 2 r)) (slotR r.succ) (.dma (sendS 2 r.succ)))
      (.dma (recvS 2 r.succ)) (rowsM_exact c r) (slotR_exact r.succ) ⟨⟨rfl, Or.inl rfl⟩, trivial⟩) fun _ => k) _ _
    (fun rs => ow c (tall (owedTo c 2) rs 0)) Q (fun r rs k => wp_sendR I K c r (tall (owedTo c 2) rs 0) k Q) _ offs) $$ [Hs Hd Ht HO]
  · isplitr; · iexact HR
    isplitl [Hs Hd Ht]
    · rw [list_sep, list_sep]
      isplitl [Hs]; · iexact Hs
      isplitl [Hd] <;> iassumption
    iexact HO
  iintro ⟨Hcs, HO⟩
  iapply (wp_each c (records I K) (fun r k => .op (.waitDma2 (recvS 2 r.succ) (rowsM c r) (slotR r.succ) (rowsM_exact c r) (slotR_exact r.succ)) fun _ => k) _ _
    (fun _ => ow c 0) Q (fun r rs k => wp_arrived I K c 2 r (rowsM c r) (slotR r.succ) (rowsM_exact c r) (slotR_exact r.succ) rfl 0 (above_zero _) k Q) _ offs) $$ [Hcr Har HO]
  · isplitr; · iexact HR
    isplitl [Hcr Har]
    · rw [list_sep]
      isplitl [Hcr] <;> iassumption
    iexact HO
  rw [list_sep]
  iintro ⟨⟨Hzr, Hr⟩, HO⟩
  iapply (wp_each c (records I K) (fun r k => .op (.waitDma2 (sendS 2 r.succ) (slotR r.succ) (rowsM c r) (slotR_exact r.succ) (rowsM_exact c r)) fun _ => k) _ _
    (fun _ => ow c 0) Q (fun r rs k => wp_sent I K c 2 r (slotR r.succ) (rowsM c r) (slotR_exact r.succ) (rowsM_exact c r) rfl 0 (above_zero _) k Q) k offs) $$ [Hcs Has HO]
  · isplitr; · iexact HR
    isplitl [Hcs Has]
    · rw [list_sep]
      isplitl [Hcs] <;> iassumption
    iexact HO
  rw [list_sep]
  iintro ⟨⟨Hzs, Hs⟩, HO⟩
  iapply Hk
  isplitl [H0 Hs]
  · isplitl [H0]; · iexact H0
    iapply (Entails.of_eq (show (bigSepL offs fun r => sendPay I c 2 r) = bigSepL offs fun r : Fin 7 => pPts c (rot c r) (ptF I c) from rfl))
    iexact Hs
  isplitl [Hr]
  · iapply (Entails.of_eq ((rest_split c (rsF I c)).trans (show _ = (bigSepL offs fun r => recvPay I c 2 r) from rfl)).symm)
    iexact Hr
  isplitl [Hzs Hzr]
  · isplitl [Hzs] <;> iassumption
  iexact HO

/-! ## Loads and stores -/

/-- Asking which device this is answers `c`. -/
theorem wp_dev (c : Dev nD) (k : Dev nD → Body F) (Q : PUnit → sProp 𝕄) : WP c (.op .deviceId k) Q = WP c (k c) Q :=
  wp_deviceId 𝒱₀ (c : Thread nD τ) none Set.univ

/-- A load of elements known to read as `v`. -/
theorem wp_read (c : Dev nD) {cs : CoreSpace} {s : Shape} {e : EltTy} (m : Memref sig .tc cs s e) (r : LoadRect s) (hl : m.view.LoadsAt r)
    {S : Finset (Idx (m.view.loc (c : Thread nD τ)))} {q : PosShare TreeShare} {f : Buf (Elt F) (m.view.loc (c : Thread nD τ))}
    (hS : m.view.setOn r.set ⊆ S) (v : r.shape.Idx → Elt F e) (hv : m.view.readAt (Elt F) r f = v)
    (k : (r.shape.Idx → Elt F e) → Body F) (Q : PUnit → sProp 𝕄) :
    (m.view.loc (c : Thread nD τ) ↦[S]{q} f)
      ⊢ iprop(((m.view.loc (c : Thread nD τ) ↦[S]{q} f) -∗ WP c (k v) Q) -∗ WP c (.op (.load m r hl) k) Q) := by
  subst hv
  exact wp_load 𝒱₀ (c : Thread nD τ) none Set.univ hS

/-- The load of slot `0` of a layer stays inside it. -/
theorem rS_sub (l : Fin 2) : (accM.view.setOn (rS l).toLoadRect.set : Finset S2x8x128x128.Idx) ⊆ (slotA l 0).view.set := by
  rw [show (accM.view.setOn (rS l).toLoadRect.set : Finset S2x8x128x128.Idx) = (rS l).set from Finset.map_refl]
  exact ((View.set_slice_whole _ _).symm.trans (rS_set l)).subset

/-- The load before the store of a device's own block into slot `0` of layer `l`, whose value is not used, and that store. -/
theorem wp_storeOwn (c : Dev nD) (l : Fin 2) (f : Buf (Elt F) ((c : Thread nD τ).loc cc0_scratch0))
    {hl : accM.view.LoadsAt (rS l).toLoadRect} {hx : (accM.access (rS l) : View sig .tc _ _ _).Stores (Finset.univ : Finset (rS l).shape.Idx)} {hm}
    (k : Body F) (Q : PUnit → sProp 𝕄) :
    aPts c l 0 fullShare f ⊢ iprop((aPts c l 0 fullShare (accF I c) -∗ WP c k Q)
      -∗ WP c (.op (.load accM (rS l).toLoadRect hl) fun _ => .op (.store accM (rS l) (partA I l c) Finset.univ hx hm) fun _ => k) Q) := by
  rw [← store_A I c l f]
  unfold aPts
  iintro H Hk
  iapply (wp_load 𝒱₀ (c : Thread nD τ) none Set.univ (m := accM) (rS_sub l)) $$ H; iintro H
  iapply (wp_store 𝒱₀ (c : Thread nD τ) none Set.univ (m := accM) (r := rS l) (Mk := Finset.univ) (rS_set l).subset) $$ H; iintro H
  iapply Hk; iexact H

/-- A staging buffer of device `c` at known contents. -/
abbrev stgPts (c : Dev nD) (b : Ref sig .tc) (f : Buf (Elt F) ((c : Thread nD τ).loc b)) : sProp 𝕄 := ((c : Thread nD τ).loc b) ↦{fullShare} f

/-- The same for the last partial product, … -/
theorem wp_storePt (c : Dev nD) (f : Buf (Elt F) ((c : Thread nD τ).loc cc0_scratch2))
    {hl : ptM.view.LoadsAt rX.toLoadRect} {hx : (ptM.access rX : View sig .tc _ _ _).Stores (Finset.univ : Finset rX.shape.Idx)} {hm}
    (k : Body F) (Q : PUnit → sProp 𝕄) :
    (((c : Thread nD τ).loc cc0_scratch2) ↦{fullShare} f) ⊢ iprop(((((c : Thread nD τ).loc cc0_scratch2) ↦{fullShare} ptF I c) -∗ WP c k Q)
      -∗ WP c (.op (.load ptM rX.toLoadRect hl) fun _ => .op (.store ptM rX (part2 I c) Finset.univ hx hm) fun _ => k) Q) := by
  rw [show ptF I c = (ptM.access rX : View sig .tc _ _ _).write (Elt F) f (part2 I c) Finset.univ from (store_pt f (part2 I c)).symm]
  iintro H Hk
  iapply (wp_load 𝒱₀ (c : Thread nD τ) none Set.univ (m := ptM) (Finset.subset_univ _)) $$ H; iintro H
  iapply (wp_store 𝒱₀ (c : Thread nD τ) none Set.univ (m := ptM) (r := rX) (Mk := Finset.univ) (Finset.subset_univ _)) $$ H; iintro H
  iapply Hk; iexact H

/-- … and for the output. -/
theorem wp_storeOut (c : Dev nD) (f : Buf (Elt F) ((c : Thread nD τ).loc cc0_stg7_0))
    {hl : oM.view.LoadsAt rO.toLoadRect} {hx : (oM.access rO : View sig .tc _ _ _).Stores (Finset.univ : Finset rO.shape.Idx)} {hm}
    (k : Body F) (Q : PUnit → sProp 𝕄) :
    stgPts c cc0_stg7_0 f ⊢ iprop((stgPts c cc0_stg7_0 (outOf I c) -∗ WP c k Q)
      -∗ WP c (.op (.load oM rO.toLoadRect hl) fun _ => .op (.store oM rO (outOf I c) Finset.univ hx hm) fun _ => k) Q) := by
  have h : stgPts c cc0_stg7_0 ((oM.access rO : View sig .tc _ _ _).write (Elt F) f (outOf I c) Finset.univ) ⊢ (stgPts c cc0_stg7_0 (outOf I c) : sProp 𝕄) :=
    Entails.of_eq (congrArg (fun g => stgPts c cc0_stg7_0 g) (store_out f (outOf I c)))
  iintro H Hk
  iapply (wp_load 𝒱₀ (c : Thread nD τ) none Set.univ (m := oM) (Finset.subset_univ _)) $$ H; iintro H
  iapply (wp_store 𝒱₀ (c : Thread nD τ) none Set.univ (m := oM) (r := rO) (Mk := Finset.univ) (Finset.subset_univ _)) $$ H; iintro H
  iapply Hk; iapply h; iexact H

/-- The seven staged inputs of device `c`. -/
def staged (c : Dev nD) : sProp 𝕄 :=
  iprop(stgPts c cc0_stg0_0 (I.x c) ∗ stgPts c cc0_stg1_0 (I.a0 c) ∗ stgPts c cc0_stg2_0 (I.b0 c) ∗ stgPts c cc0_stg3_0 (I.a1 c)
    ∗ stgPts c cc0_stg4_0 (I.b1 c) ∗ stgPts c cc0_stg5_0 (I.a2 c) ∗ stgPts c cc0_stg6_0 (I.b2 c))

/-- The three scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ∃ f : Buf (Elt F) ((c : Thread nD τ).loc cc0_scratch2), ((c : Thread nD τ).loc cc0_scratch2) ↦{fullShare} f)

/-- What the barrier starts from: the signals' tokens, the credit for the peers' signals, and the cell's position. -/
def barRes (c : Dev nD) : sProp 𝕄 :=
  iprop((bigSepL offs fun r => dutyTok ER (barC (rot c r)) 0 (Fin.rev r)) ∗ cred (tallyAt (barC c) () 7) ∗ atPos ER (barC c) 0 ∅ 0)

/-- The gathers' buffer owned whole is, per layer, its own slot and its seven arrival slots. -/
theorem acc_pieces (c : Dev nD) (f : Buf (Elt F) ((c : Thread nD τ).loc cc0_scratch0)) :
    ((((c : Thread nD τ).loc cc0_scratch0) ↦{fullShare} f) : sProp 𝕄)
      = iprop((aPts c 0 0 fullShare f ∗ bigSepL offs fun r : Fin 7 => aPts c 0 r.succ fullShare f)
        ∗ (aPts c 1 0 fullShare f ∗ bigSepL offs fun r : Fin 7 => aPts c 1 r.succ fullShare f)) := by
  rw [acc_split, bigSep_univ_eq_bigSepL [0, 1] (by decide) (by decide), ← eight_split (fun o => aPts c 0 o fullShare f), ← eight_split (fun o => aPts c 1 o fullShare f)]
  rfl

/-- Its two layers are the whole of it. -/
theorem acc_layers (c : Dev nD) (f : Buf (Elt F) ((c : Thread nD τ).loc cc0_scratch0)) :
    ((((c : Thread nD τ).loc cc0_scratch0) ↦{fullShare} f) : sProp 𝕄)
      = iprop((((c : Thread nD τ).loc cc0_scratch0) ↦[layer 0]{fullShare} f) ∗ (((c : Thread nD τ).loc cc0_scratch0) ↦[layer 1]{fullShare} f)) := by
  rw [acc_pieces, layer_split, layer_split, eight_split, eight_split]

/-- The scatter's unused slot, at whatever it holds, and the arrival slots are the whole buffer. -/
theorem rs_join (c : Dev nD) (f g : Buf (Elt F) ((c : Thread nD τ).loc cc0_scratch1)) :
    iprop(sPts c 0 f ∗ (((c : Thread nD τ).loc cc0_scratch1) ↦[restSet]{fullShare} g))
      ⊢ (∃ h : Buf (Elt F) ((c : Thread nD τ).loc cc0_scratch1), ((c : Thread nD τ).loc cc0_scratch1) ↦{fullShare} h : sProp 𝕄) := by
  let h : Buf (Elt F) ((c : Thread nD τ).loc cc0_scratch1) := fun i : S8x16x128.Idx => if (i 0).val = 0 then f i else g i
  have h0 : (sPts c 0 f : sProp 𝕄) = sPts c 0 h := pointsTo_congr fun i hi => by
    have := (mem_slotR 0 i).mp hi
    exact (if_pos (congrArg Fin.val this)).symm
  have h1 : (((c : Thread nD τ).loc cc0_scratch1) ↦[restSet]{fullShare} g : sProp 𝕄) = (((c : Thread nD τ).loc cc0_scratch1) ↦[restSet]{fullShare} h) :=
    pointsTo_congr fun i hi => by
      obtain ⟨r, -, hr⟩ := Finset.mem_biUnion.mp hi
      have := congrArg Fin.val ((mem_slotR r.succ i).mp hr)
      rw [Fin.val_succ] at this
      exact (if_neg (by omega)).symm
  rw [h0, h1, rest_split]
  iintro H
  iexists h
  rw [rs_split, eight_split]
  iexact H

set_option maxHeartbeats 1600000 in
/-- The body, from the buffers and cells the launch hands over to the output stored and everything given back. -/
theorem wp_loops (K : Dev nD × Cell → ℕ) (c : Dev nD) (o : Buf (Elt F) ((c : Thread nD τ).loc cc0_stg7_0)) (Q : PUnit → sProp 𝕄) :
    iprop(records I K ∗ barRes c ∗ (phaseRes c 0 ∗ phaseRes c 1 ∗ phaseRes c 2) ∗ scratch c ∗ staged I c ∗ stgPts c cc0_stg7_0 o ∗ ow c (O0 c)
        ∗ ((semVal (barC c) 0 ∗ (phaseEnd c 0 ∗ phaseEnd c 1 ∗ phaseEnd c 2) ∗ scratch c ∗ staged I c ∗ stgPts c cc0_stg7_0 (outOf I c) ∗ ow c 0) -∗ Q ⟨⟩))
      ⊢ WP c loops Q := by
  unfold loops
  rw [wp_dev]
  unfold bodyOf
  unfold barRes scratch staged
  iintro ⟨#HR, ⟨Ht, Hc, Hat⟩, ⟨Hp0, Hp1, Hp2⟩, ⟨⟨%fa, Ha⟩, ⟨%fs, Hs⟩, ⟨%fp, Hp⟩⟩, ⟨Hx, Ha0, Hb0, Ha1, Hb1, Ha2, Hb2⟩, Ho, HO, Hk⟩
  ihave Ha := (Entails.of_eq (acc_pieces c fa)) $$ Ha
  ihave Hs := (Entails.of_eq ((rs_split c fs).trans (eight_split fun o => sPts c o fs))) $$ Hs
  icases Ha with ⟨⟨HA0, HA0s⟩, HA1, HA1s⟩
  icases Hs with ⟨HS0, HSs⟩
  -- the signals, each handing a peer its three slots here
  iapply (wp_sigs I K c (O1 c)) $$ [Ht HA0s HA1s HSs HO]
  · isplitr; · iexact HR
    isplitl [Ht HA0s HA1s HSs]
    · rw [list_sep, list_rev (fun r => slotsOf c r)]
      isplitl [Ht]; · iexact Ht
      unfold slotsOf
      rw [list_sep, list_sep]
      isplitl [HA0s]
      · iapply (bigSepL_mono fun r _ => exists_intro (Φ := fun f => aPts c 0 r.succ fullShare f) fa); iexact HA0s
      isplitl [HA1s]
      · iapply (bigSepL_mono fun r _ => exists_intro (Φ := fun f => aPts c 1 r.succ fullShare f) fa); iexact HA1s
      iapply (bigSepL_mono fun r _ => exists_intro (Φ := fun f => sPts c r.succ f) fs); iexact HSs
    iexact HO
  iintro ⟨-, HO⟩
  -- the barrier: the slots this device will write into are its own
  iapply (wp_bar I K c) $$ [Hc Hat HO]
  · isplitr; · iexact HR
    isplitl [Hc]; · iexact Hc
    isplitl [Hat] <;> iassumption
  unfold slotsOf
  rw [list_sep, list_sep]
  iintro ⟨Hz, ⟨HD0, HD1, HDs⟩, HO⟩
  -- the first partial product
  iapply (wp_read c xM _ _ (Finset.subset_univ _) (I.x c) (Memref.readAt_unit_zero (Elt F) cc0_stg0_0 hz _ (I.x c))) $$ Hx; iintro Hx
  iapply (wp_read c a0M _ _ (Finset.subset_univ _) (I.a0 c) (Memref.readAt_unit_zero (Elt F) cc0_stg1_0 hz _ (I.a0 c))) $$ Ha0; iintro Ha0
  iapply (wp_read c b0M _ _ (Finset.subset_univ _) (I.b0 c) (Memref.readAt_unit_zero (Elt F) cc0_stg2_0 hz _ (I.b0 c))) $$ Hb0; iintro Hb0
  iapply (wp_storeOwn I c 0 fa) $$ HA0; iintro HA0
  -- the first gather
  unfold phase0
  iapply (wp_gather I K c 0 (O2 c) (above_O2 c)) $$ [HA0 HD0 Hp0 HO]
  · isplitr; · iexact HR
    isplitl [HA0]; · iexact HA0
    isplitl [HD0]; · iexact HD0
    isplitl [Hp0]; · iexact Hp0
    iexact HO
  iintro ⟨HL0, He0, HO⟩
  -- the second partial product
  iapply (wp_read c accM _ _ (rL_sub 0) (gathered (part0 I) c) (load_A I c 0)) $$ HL0; iintro HL0
  iapply (wp_read c a1M _ _ (Finset.subset_univ _) (I.a1 c) (Memref.readAt_unit_zero (Elt F) cc0_stg3_0 hz _ (I.a1 c))) $$ Ha1; iintro Ha1
  iapply (wp_read c b1M _ _ (Finset.subset_univ _) (I.b1 c) (Memref.readAt_unit_zero (Elt F) cc0_stg4_0 hz _ (I.b1 c))) $$ Hb1; iintro Hb1
  iapply (wp_storeOwn I c 1 fa) $$ HA1; iintro HA1
  -- the second gather
  unfold phase1
  iapply (wp_gather I K c 1 (O3 c) (above_O3 c)) $$ [HA1 HD1 Hp1 HO]
  · isplitr; · iexact HR
    isplitl [HA1]; · iexact HA1
    isplitl [HD1]; · iexact HD1
    isplitl [Hp1]; · iexact Hp1
    iexact HO
  iintro ⟨HL1, He1, HO⟩
  -- the last partial product
  iapply (wp_read c accM _ _ (rL_sub 1) (gathered (part1 I) c) (load_A I c 1)) $$ HL1; iintro HL1
  iapply (wp_read c a2M _ _ (Finset.subset_univ _) (I.a2 c) (Memref.readAt_unit_zero (Elt F) cc0_stg5_0 hz _ (I.a2 c))) $$ Ha2; iintro Ha2
  iapply (wp_read c b2M _ _ (Finset.subset_univ _) (I.b2 c) (Memref.readAt_unit_zero (Elt F) cc0_stg6_0 hz _ (I.b2 c))) $$ Hb2; iintro Hb2
  iapply (wp_storePt I c fp) $$ Hp; iintro Hp
  -- the scatter
  unfold phase2
  iapply (wp_scatter I K c) $$ [Hp HDs Hp2 HO]
  · isplitr; · iexact HR
    isplitl [Hp]; · iexact Hp
    isplitl [HDs]; · iexact HDs
    isplitl [Hp2]; · iexact Hp2
    iexact HO
  iintro ⟨Hp, Hr, He2, HO⟩
  -- the sum of the eight contributions, stored
  iapply (wp_read c ptM _ _ (Finset.subset_univ _) (rowsOf I c c) (load_own I c)) $$ Hp; iintro Hp
  iapply (wp_read c rsM _ _ rRest_sub (restOf I c) (load_R I c)) $$ Hr; iintro Hr
  iapply (wp_storeOut I c o) $$ Ho; iintro Ho
  unfold WP
  rw [wp_ret]; imodintro
  iapply Hk
  isplitl [Hz]; · iexact Hz
  isplitl [He0 He1 He2]
  · isplitl [He0]; · iexact He0
    isplitl [He1]; · iexact He1
    iexact He2
  isplitl [HL0 HL1 HS0 Hr Hp]
  · isplitl [HL0 HL1]
    · iexists accF I c
      iapply (Entails.of_eq (acc_layers c (accF I c)).symm)
      isplitl [HL0]; · iexact HL0
      iexact HL1
    isplitl [HS0 Hr]
    · iapply (rs_join c fs (rsF I c))
      isplitl [HS0]; · iexact HS0
      iexact Hr
    iexists ptF I c; iexact Hp
  isplitl [Hx Ha0 Hb0 Ha1 Hb1 Ha2 Hb2]
  · isplitl [Hx]; · iexact Hx
    isplitl [Ha0]; · iexact Ha0
    isplitl [Hb0]; · iexact Hb0
    isplitl [Ha1]; · iexact Ha1
    isplitl [Hb1]; · iexact Hb1
    isplitl [Ha2]; · iexact Ha2
    iexact Hb2
  isplitl [Ho] <;> iassumption

end Cert.KI

end
-- ==== Proof.KI.Deal.lean ====
/-
# What the launch deals each device

The cells, their tokens and the credit for what the peers owe, first as they are made — cell by cell at the device whose
cell it is — and then dealt to the device that uses them: a token goes to the device that pays the duty.
-/
module

public import proofs.«01_k».proof.Proof.KI.Phases
public import Idealize.ShloMosaic.Lib.Pipeline.Launch
public import Idealize.ShloMosaic.Lib.Pipeline.Kit

@[expose] public section

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] (I : Ins F)

local notation "𝕄" => MT nD τ sig Unit (Elt F) ℕ UU ℕ

/-! ## A device's cells, listed -/

/-- A phase and an offset. -/
abbrev PO : Type := Fin 3 × Fin 7

omit [FloatOps F] in
/-- Phase by phase, offset by offset. -/
theorem po_lists (Φ : Fin 3 → Fin 7 → sProp 𝕄) :
    (bigSep Finset.univ fun pr : PO => Φ pr.1 pr.2) = iprop(bigSepL offs (Φ 0) ∗ bigSepL offs (Φ 1) ∗ bigSepL offs (Φ 2)) := by
  rw [bigSep_univ_prod, bigSep_univ_eq_bigSepL [0, 1, 2] (by decide) (by decide), ← seven_list, ← seven_list, ← seven_list]
  rfl

omit [FloatOps F] in
/-- The transfers' cells of a device: the idle ones, the departures' and the arrivals'. -/
theorem transfer_split (Ψ : Bool × Fin 3 × Fin 8 → sProp 𝕄) :
    bigSep Finset.univ Ψ = iprop((bigSep Finset.univ fun bp : Bool × Fin 3 => Ψ (bp.1, bp.2, 0))
      ∗ (bigSep Finset.univ fun pr : PO => Ψ (false, pr.1, pr.2.succ)) ∗ (bigSep Finset.univ fun pr : PO => Ψ (true, pr.1, pr.2.succ))) := by
  have h8 (b : Bool) (p : Fin 3) : (bigSep Finset.univ fun o : Fin 8 => Ψ (b, p, o)) = iprop(Ψ (b, p, 0) ∗ bigSep Finset.univ fun r : Fin 7 => Ψ (b, p, r.succ)) :=
    (eight_split fun o => Ψ (b, p, o)).trans (by rw [seven_list])
  rw [bigSep_univ_prod, bigSep_congr fun (b : Bool) _ => (bigSep_univ_prod (fun po : Fin 3 × Fin 8 => Ψ (b, po))).trans
    ((bigSep_congr fun p _ => h8 b p).trans (bigSep_sep' _ _ _)), bigSep_sep', bigSep_univ_prod (fun bp : Bool × Fin 3 => Ψ (bp.1, bp.2, 0)),
    bigSep_univ_prod (fun pr : PO => Ψ (false, pr.1, pr.2.succ)), bigSep_univ_prod (fun pr : PO => Ψ (true, pr.1, pr.2.succ)),
    bigSep_univ_eq_bigSepL [false, true] (by decide) (by decide) (fun b : Bool => bigSep Finset.univ fun p : Fin 3 => bigSep Finset.univ fun r : Fin 7 => Ψ (b, p, r.succ))]
  rfl

omit [FloatOps F] in
/-- All the cells of a device: the barrier's and the transfers'. -/
theorem cell_split (Φ : Cell → sProp 𝕄) :
    bigSep Finset.univ Φ = iprop(Φ none ∗ bigSep Finset.univ fun x : Bool × Fin 3 × Fin 8 => Φ (some x)) := by
  have h : (Finset.univ.erase (none : Cell)) = Finset.univ.map ⟨some, Option.some_injective (Bool × Fin 3 × Fin 8)⟩ := by
    ext x; cases x <;> simp
  rw [bigSep_univ_at Φ none, h, bigSep_map]
  rfl

/-! ## The cells, the tokens -/

/-- Different semaphores have different cells. -/
theorem csem_injective : Function.Injective csem := by decide +kernel
/-- So have different devices'. -/
theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- Every cell of every device. -/
def allCells : Finset (GSem nD τ sig) := Finset.univ.map ⟨kcell, kcell_injective⟩

/-- A device's own cells' duties: the barrier's seven, a departure's one, an arrival's one. -/
abbrev Tok : Type := Fin 7 ⊕ (PO ⊕ PO)
/-- The token of a duty. -/
def tokOf (ct : Dev nD × Tok) : GSem nD τ sig × ℕ × Fin 7 :=
  match ct.2 with
  | .inl d => (barC ct.1, 0, d)
  | .inr (.inl pr) => (sendC ct.1 pr.1 pr.2, 0, 0)
  | .inr (.inr pr) => (recvC ct.1 pr.1 pr.2, 0, 0)
/-- The cell and the duty name the token. -/
def tokKey (t : Tok) : Cell × Fin 7 :=
  match t with
  | .inl d => (none, d)
  | .inr (.inl pr) => (some (false, pr.1, pr.2.succ), 0)
  | .inr (.inr pr) => (some (true, pr.1, pr.2.succ), 0)
/-- Different tokens stand for different duties. -/
theorem tokKey_injective : Function.Injective tokKey := by decide +kernel
/-- A token written out by its cell and duty. -/
theorem tokOf_eq (ct : Dev nD × Tok) : tokOf ct = (kcell (ct.1, (tokKey ct.2).1), 0, (tokKey ct.2).2) := by
  obtain ⟨c, d | pr | pr⟩ := ct <;> rfl
/-- Different duties have different tokens. -/
theorem tokOf_injective : Function.Injective (tokOf : Dev nD × Tok → GSem nD τ sig × ℕ × Fin 7) := by
  rintro ⟨c, t⟩ ⟨c', t'⟩ h
  rw [tokOf_eq, tokOf_eq] at h
  have hk := kcell_injective (congrArg Prod.fst h)
  have h1 : c = c' := congrArg Prod.fst hk
  have h2 : t = t' := tokKey_injective (Prod.ext (congrArg Prod.snd hk) (congrArg (fun x : GSem nD τ sig × ℕ × Fin 7 => x.2.2) h))
  rw [h1, h2]
/-- Every token of every device. -/
def allToks : Finset (GSem nD τ sig × ℕ × Fin 7) := Finset.univ.map ⟨tokOf, tokOf_injective⟩

/-- The launch's ghost state: the pipeline's and the cells'. -/
def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Fin 7 => dutyTok ER (barC c) 0 d)
    ∗ (bigSep Finset.univ fun pr : PO => dutyTok ER (sendC c pr.1 pr.2) 0 0) ∗ bigSep Finset.univ fun pr : PO => dutyTok ER (recvC c pr.1 pr.2) 0 0)

/-- The tokens of the duties device `c` pays. -/
def payToks (c : Dev nD) : sProp 𝕄 :=
  iprop((bigSep Finset.univ fun r : Fin 7 => dutyTok ER (barC (rot c r)) 0 (Fin.rev r)) ∗ bigSep Finset.univ fun pr : PO => copyToks c pr.1 pr.2)

/-- What the launch makes at device `c`: its cells' states, positions and tokens. -/
def G (c : Dev nD) : sProp 𝕄 :=
  iprop((bigSep Finset.univ fun k : Cell => roundState ER (sched I) (kcell (c, k)) 0)
    ∗ (bigSep Finset.univ fun k : Cell => iprop(atPos ER (kcell (c, k)) 0 ∅ 0 ∗ reached ER (kcell (c, k)) 0)) ∗ toks c)

/-- The cells' ghost state is every device's share of it. -/
theorem fund_cells : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched I) allCells allToks) $$ HX with ⟨Hst, Hr, Hat, Htok⟩
  imodintro
  ihave Hst' := (Entails.of_eq (hX fun g => roundState ER (sched I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The offset and its mirror image pair the devices: who signals whom. -/
def sigE : Dev nD × Fin 7 ≃ Dev nD × Fin 7 :=
  Function.Involutive.toPerm (fun cr => (rot cr.1 cr.2, Fin.rev cr.2)) fun cr => Prod.ext (rot_rev cr.1 cr.2) (Fin.rev_rev cr.2)
/-- Who copies to whom. -/
def copyE : Dev nD × PO ≃ Dev nD × PO where
  toFun cr := (rot cr.1 cr.2.2, cr.2)
  invFun cr := (src cr.1 cr.2.2.succ, cr.2)
  left_inv cr := Prod.ext (src_rot cr.1 cr.2.2) rfl
  right_inv cr := Prod.ext (rot_src cr.1 cr.2.2) rfl

omit [FloatOps F] in
/-- The tokens dealt round: each to the device that pays its duty. -/
theorem toks_around : (bigSep Finset.univ fun c : Dev nD => (toks c : sProp 𝕄)) = bigSep Finset.univ fun c : Dev nD => payToks c := by
  have hb : (bigSep Finset.univ fun c : Dev nD => bigSep Finset.univ fun d : Fin 7 => (dutyTok ER (barC c) 0 d : sProp 𝕄))
      = bigSep Finset.univ fun c : Dev nD => bigSep Finset.univ fun r : Fin 7 => dutyTok ER (barC (rot c r)) 0 (Fin.rev r) := by
    rw [← bigSep_univ_prod (fun cr : Dev nD × Fin 7 => (dutyTok ER (barC cr.1) 0 cr.2 : sProp 𝕄)),
      ← bigSep_univ_prod (fun cr : Dev nD × Fin 7 => (dutyTok ER (barC (rot cr.1 cr.2)) 0 (Fin.rev cr.2) : sProp 𝕄)), bigSep_univ_equiv sigE]
    rfl
  have hr : (bigSep Finset.univ fun c : Dev nD => bigSep Finset.univ fun pr : PO => (dutyTok ER (recvC c pr.1 pr.2) 0 0 : sProp 𝕄))
      = bigSep Finset.univ fun c : Dev nD => bigSep Finset.univ fun pr : PO => dutyTok ER (recvC (rot c pr.2) pr.1 pr.2) 0 0 := by
    rw [← bigSep_univ_prod (fun cr : Dev nD × PO => (dutyTok ER (recvC cr.1 cr.2.1 cr.2.2) 0 0 : sProp 𝕄)),
      ← bigSep_univ_prod (fun cr : Dev nD × PO => (dutyTok ER (recvC (rot cr.1 cr.2.2) cr.2.1 cr.2.2) 0 0 : sProp 𝕄)), bigSep_univ_equiv copyE]
    rfl
  unfold toks payToks copyToks
  simp only [bigSep_sep']
  rw [hb, hr]

/-! ## The credit for what the peers owe -/

omit [FloatOps F] in
/-- A debt each device owes the same semaphore of the peer `r + 1` places on is a credit at that semaphore. -/
theorem cred_one (c : Dev nD) (r : Fin 7) (k : Cell) (a : ℕ) :
    (Pipeline.launchCred (fun d => tallyAt (kcell (rot d r, k)) () a) c : sProp 𝕄) ⊢ cred (tallyAt (kcell (c, k)) () a) := by
  have h : tallyOn (kcell (c, k)) (launchCredit (Pipeline.owing fun d : Dev nD => tallyAt (kcell (rot d r, k)) () a) 0 (kcell (c, k)))
      = (tallyAt (kcell (c, k)) () a : CellTallies nD τ sig Unit) := by
    unfold tallyAt
    refine congrArg _ (Finsupp.ext fun u => ?_)
    cases u
    rw [Pipeline.launchCredit_owing, Finsupp.single_eq_same, Finset.sum_eq_single (src c r.succ)]
    · rw [rot_src]; exact (tallyAt_apply _ _ _ _ _).trans (if_pos ⟨rfl, rfl⟩)
    · intro d _ hd
      refine (tallyAt_apply _ _ _ _ _).trans (if_neg fun h => hd ?_)
      have : c = rot d r := congrArg Prod.fst (kcell_injective h.1)
      rw [this, src_rot]
    · exact fun h => absurd (Finset.mem_univ _) h
  rw [← h]
  exact Pipeline.launchCred_elim _ c (csem k)

omit [FloatOps F] in
/-- The last of three comes to the front. -/
theorem front (A B C : sProp 𝕄) : iprop((A ∗ B) ∗ C) ⊢ iprop((C ∗ A) ∗ B) := by
  iintro ⟨⟨A, B⟩, C⟩
  isplitl [A C]
  · isplitl [C] <;> iassumption
  iexact B

omit [FloatOps F] in
/-- The first of three goes to the back. -/
theorem back (A B C : sProp 𝕄) : iprop((C ∗ A) ∗ B) ⊢ iprop((A ∗ B) ∗ C) := by
  iintro ⟨⟨C, A⟩, B⟩
  isplitl [A B]
  · isplitl [A] <;> iassumption
  iexact C

omit [FloatOps F] in
/-- The credit of several debts at once is each one's. -/
theorem cred_tall (c : Dev nD) (t : Dev nD → Fin 7 → CellTallies nD τ sig Unit) (base : Dev nD → CellTallies nD τ sig Unit) :
    ∀ rs : List (Fin 7), (Pipeline.launchCred (fun d => tall (t d) rs (base d)) c : sProp 𝕄)
      = iprop((bigSepL rs fun r => Pipeline.launchCred (fun d => t d r) c) ∗ Pipeline.launchCred base c)
  | [] => (equiv_iff.mp emp_sep).symm
  | r :: rs => by
    rw [bigSepL_cons']
    show (Pipeline.launchCred (fun d => tall (t d) rs (base d) + t d r) c : sProp 𝕄) = _
    rw [Pipeline.launchCred_add, cred_tall c t base rs]
    exact Entails.antisymm (front _ _ _) (back _ _ _)

omit [FloatOps F] in
/-- Seven units of credit one by one are seven at once. -/
theorem cred_seven (g : GSem nD τ sig) : (bigSepL offs fun _ => cred (tallyAt g () 1) : sProp 𝕄) ⊢ cred (tallyAt g () 7) := by
  have h (n : ℕ) : iprop(cred (tallyAt g () 1) ∗ cred (tallyAt g () n)) ⊢ (cred (tallyAt g () (n + 1)) : sProp 𝕄) := by
    rw [Nat.add_comm n 1, show (tallyAt g () (1 + n) : CellTallies nD τ sig Unit) = tallyAt g () 1 + tallyAt g () n from (tallyAt_add _ _ _ _).symm]
    exact (cred_add _ _).2
  simp only [offs, bigSepL_cons', bigSepL_nil]
  iintro ⟨H1, H2, H3, H4, H5, H6, H7, -⟩
  ihave H := (h 1) $$ [H1 H2]
  · isplitl [H1] <;> iassumption
  ihave H := (h 2) $$ [H3 H]
  · isplitl [H3] <;> iassumption
  ihave H := (h 3) $$ [H4 H]
  · isplitl [H4] <;> iassumption
  ihave H := (h 4) $$ [H5 H]
  · isplitl [H5] <;> iassumption
  ihave H := (h 5) $$ [H6 H]
  · isplitl [H6] <;> iassumption
  iapply (h 6)
  isplitl [H7] <;> iassumption

/-- The credit for what arrives in one phase. -/
def arrivals (c : Dev nD) (p : Fin 3) : sProp 𝕄 := bigSepL offs fun r => cred (tallyAt (recvC c p r) () (amt p))

omit [FloatOps F] in
/-- The credit a device starts with: seven units at its barrier and one copy at each arrival's cell. -/
theorem creds (c : Dev nD) : (Pipeline.launchCred O0 c : sProp 𝕄)
    ⊢ iprop(cred (tallyAt (barC c) () 7) ∗ arrivals c 0 ∗ arrivals c 1 ∗ arrivals c 2) := by
  have hO : (Pipeline.launchCred O0 c : sProp 𝕄) = iprop((bigSepL offs fun r => Pipeline.launchCred (fun d => owedBar d r) c)
      ∗ (bigSepL offs fun r => Pipeline.launchCred (fun d => owedTo d 0 r) c) ∗ (bigSepL offs fun r => Pipeline.launchCred (fun d => owedTo d 1 r) c)
      ∗ (bigSepL offs fun r => Pipeline.launchCred (fun d => owedTo d 2 r) c) ∗ Pipeline.launchCred (fun _ => 0) c) :=
    (cred_tall c owedBar O1 offs).trans (congrArg _ ((cred_tall c (fun d => owedTo d 0) O2 offs).trans
      (congrArg _ ((cred_tall c (fun d => owedTo d 1) O3 offs).trans (congrArg _ (cred_tall c (fun d => owedTo d 2) (fun _ => 0) offs))))))
  rw [hO]
  unfold arrivals
  iintro ⟨HB, H0, H1, H2, -⟩
  isplitl [HB]
  · iapply (cred_seven (F := F) (barC c))
    iapply (bigSepL_mono fun r _ => cred_one c r none 1); iexact HB
  isplitl [H0]; · iapply (bigSepL_mono fun r _ => cred_one c r (some (true, 0, r.succ)) (amt 0)); iexact H0
  isplitl [H1]; · iapply (bigSepL_mono fun r _ => cred_one c r (some (true, 1, r.succ)) (amt 1)); iexact H1
  iapply (bigSepL_mono fun r _ => cred_one c r (some (true, 2, r.succ)) (amt 2)); iexact H2

end Cert.KI

end
-- ==== Proof.KI.Launch.lean ====
/-
# The whole run

From any memory with every semaphore at zero, every fair execution of the kernel on the eight devices ends with the
arguments as they were, the result of each device as computed by `outOf`, and every semaphore at zero.
-/
module

public import proofs.«01_k».proof.Proof.KI.Deal
public import proofs.«01_k».proof.Proof.Gen.KernelIdeal.Launch
public import Idealize.ShloMosaic.Lib.Pipeline.CollectiveSegs

@[expose] public section

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] (m : (ℓ : Loc nD τ sig) → Buf (Elt F) ℓ) (ρ : Dev nD → PrngReg)

local notation "𝕄" => MT nD τ sig Unit (Elt F) ℕ UU ℕ

/-- The memory at the start. -/
def s₀ : MemSt nD τ sig (Elt F) := ⟨m, fun _ => 0, ρ⟩

/-- The block of window `w`'s array that device `c` stages. -/
def blockAt (c : Dev nD) (w : Fin cfg0.W) : ((cfg0.win w).xblock (cfg0.grid.coords t0_0)).Idx → Elt F (cfg0.win w).elt :=
  ((cfg0.win w).blk t0_0).view.read (Elt F) ((s₀ m ρ).mem ((cfg0.win w).arr.view.loc (c : Thread nD τ)))

/-- The arguments, device by device. -/
def insOf : Ins F where
  x c := blockAt m ρ c (0 : Fin 8)
  a0 c := blockAt m ρ c (1 : Fin 8)
  b0 c := blockAt m ρ c (2 : Fin 8)
  a1 c := blockAt m ρ c (3 : Fin 8)
  b1 c := blockAt m ρ c (4 : Fin 8)
  a2 c := blockAt m ρ c (5 : Fin 8)
  b2 c := blockAt m ρ c (6 : Fin 8)

/-- What stays with device `c`: its cells' positions and the tokens of the duties it pays. -/
def linear (c : Dev nD) : sProp 𝕄 := iprop((bigSep Finset.univ fun k : Cell => atPos ER (kcell (c, k)) 0 ∅ 0) ∗ payToks c)

/-- What every device knows, the levels apart. -/
def shared (K : Dev nD × Cell → ℕ) : sProp 𝕄 :=
  iprop((bigSep Finset.univ fun ck : Dev nD × Cell => cellInv ER (sched (insOf m ρ)) (K ck) (kcell ck))
    ∗ bigSep Finset.univ fun ck : Dev nD × Cell => reached ER (kcell ck) 0)

instance shared_persistent (K : Dev nD × Cell → ℕ) : BI.Persistent (shared m ρ K) := by unfold shared; infer_instance

/-- What the global step hands device `c`. -/
def G' (c : Dev nD) : sProp 𝕄 := iprop(∃ K, shared m ρ K ∗ linear c)

/-- What the kernel's body starts from on device `c`, its buffers apart. -/
def start (c : Dev nD) : sProp 𝕄 :=
  iprop((∃ K, records (insOf m ρ) K ∗ linear c) ∗ cred (tallyAt (barC c) () 7) ∗ arrivals c 0 ∗ arrivals c 1 ∗ arrivals c 2)

/-- Every cell of device `c` closed at zero. -/
def closed (c : Dev nD) : sProp 𝕄 := bigSep Finset.univ fun k : Cell => semVal (kcell (c, k)) 0

/-- The proof data of the one region. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m ρ).x c
    | ⟨1, _⟩ => (insOf m ρ).a0 c
    | ⟨2, _⟩ => (insOf m ρ).b0 c
    | ⟨3, _⟩ => (insOf m ρ).a1 c
    | ⟨4, _⟩ => (insOf m ρ).b1 c
    | ⟨5, _⟩ => (insOf m ρ).a2 c
    | ⟨6, _⟩ => (insOf m ρ).b2 c
    | ⟨7, _⟩ => outOf (insOf m ρ) c
  Φ t := match t with
    | ⟨0, _⟩ => iprop(start m ρ c ∗ scratch c)
    | ⟨_ + 1, _⟩ => iprop(closed c ∗ scratch c)
  q _ := fullShare
  owed t := match t with
    | ⟨0, _⟩ => O0 c
    | ⟨_ + 1, _⟩ => 0

/-! ## The body -/

omit [FloatOps F] in
/-- The windows one by one. -/
theorem bigSep_W (Φ : Fin cfg0.W → sProp 𝕄) : bigSep Finset.univ Φ = iprop(Φ (0 : Fin 8) ∗ Φ (1 : Fin 8) ∗ Φ (2 : Fin 8) ∗ Φ (3 : Fin 8)
    ∗ Φ (4 : Fin 8) ∗ Φ (5 : Fin 8) ∗ Φ (6 : Fin 8) ∗ Φ (7 : Fin 8)) := bigSep_W0 Φ

omit [FloatOps F] in
/-- What holds at some value equal to `X` holds at `X` … -/
theorem eq_elim {A : Type} (X : A) (P : A → sProp 𝕄) : iprop(∃ f, ⌜f = X⌝ ∗ P f) ⊢ P X := by
  iintro ⟨%f, %h, H⟩; subst h; iexact H
omit [FloatOps F] in
/-- … and the other way round. -/
theorem eq_intro {A : Type} (X : A) (P : A → sProp 𝕄) : P X ⊢ iprop(∃ f, ⌜f = X⌝ ∗ P f) := by
  iintro H; iexists X; isplitr; · (ipureintro; rfl)
  iexact H

omit [FloatOps F] in
/-- A whole buffer owned at its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stgPts c b X := by
  unfold owns stgPts
  simp only [Memref.view_whole, View.read_whole, View.set_whole]
  exact Entails.antisymm (eq_elim _ _) (eq_intro _ _)

/-- What an input window's staging buffer holds when the body starts is the block fetched into it. -/
theorem before_in (c : Dev nD) (w : Fin cfg0.W) (hw : (cfg0.win w).fetch t0_0 = true) (d) :
    (dats m ρ 0 c).before w t0_0 d = (dats m ρ 0 c).fetched w t0_0 d := by
  unfold Dat.before; rw [if_pos hw]

omit [FloatOps F] in
/-- A phase's share of a device's cells and tokens. -/
theorem phase_join (c : Dev nD) (p : Fin 3) : iprop(bigSepL offs (fun r => (copyToks c p r : sProp 𝕄)) ∗ bigSepL offs (fun r => atPos ER (sendC c p r) 0 ∅ 0)
    ∗ arrivals c p ∗ bigSepL offs (fun r => atPos ER (recvC c p r) 0 ∅ 0)) ⊢ phaseRes c p := by
  unfold phaseRes arrivals; exact Entails.rfl

/-- A device's idle cells: those at offset zero. -/
def idles (c : Dev nD) : sProp 𝕄 := bigSep Finset.univ fun bp : Bool × Fin 3 => atPos ER (kcell (c, some (bp.1, bp.2, 0))) 0 ∅ 0

omit [FloatOps F] in
/-- The positions and tokens of a device, phase by phase. -/
theorem linear_split (c : Dev nD) :
    (linear c : sProp 𝕄) ⊢ iprop(atPos ER (barC c) 0 ∅ 0 ∗ idles c ∗ (bigSepL offs fun r => dutyTok ER (barC (rot c r)) 0 (Fin.rev r))
      ∗ ((bigSepL offs fun r => atPos ER (sendC c 0 r) 0 ∅ 0) ∗ (bigSepL offs fun r => atPos ER (sendC c 1 r) 0 ∅ 0) ∗ (bigSepL offs fun r => atPos ER (sendC c 2 r) 0 ∅ 0))
      ∗ ((bigSepL offs fun r => atPos ER (recvC c 0 r) 0 ∅ 0) ∗ (bigSepL offs fun r => atPos ER (recvC c 1 r) 0 ∅ 0) ∗ (bigSepL offs fun r => atPos ER (recvC c 2 r) 0 ∅ 0))
      ∗ (bigSepL offs fun r => copyToks c 0 r) ∗ (bigSepL offs fun r => copyToks c 1 r) ∗ (bigSepL offs fun r => copyToks c 2 r)) := by
  unfold linear payToks idles
  rw [cell_split, transfer_split, po_lists (fun p r => atPos ER (kcell (c, some (false, p, r.succ))) 0 ∅ 0),
    po_lists (fun p r => atPos ER (kcell (c, some (true, p, r.succ))) 0 ∅ 0), po_lists (fun p r => copyToks c p r), ← seven_list (fun r => dutyTok ER (barC (rot c r)) 0 (Fin.rev r))]
  iintro ⟨⟨H1, H2, H3, H4⟩, H5, H6⟩
  isplitl [H1]; · iexact H1
  isplitl [H2]; · iexact H2
  isplitl [H5]; · iexact H5
  isplitl [H3]; · iexact H3
  isplitl [H4]; · iexact H4
  iexact H6

omit [FloatOps F] in
/-- A device's cells closed, phase by phase. -/
theorem closed_join (c : Dev nD) :
    iprop(semVal (barC c) 0 ∗ (bigSep Finset.univ fun bp : Bool × Fin 3 => semVal (kcell (c, some (bp.1, bp.2, 0))) 0)
      ∗ phaseEnd c 0 ∗ phaseEnd c 1 ∗ phaseEnd c 2) ⊢ (closed c : sProp 𝕄) := by
  unfold closed phaseEnd
  rw [cell_split, transfer_split, po_lists (fun p r => semVal (kcell (c, some (false, p, r.succ))) 0),
    po_lists (fun p r => semVal (kcell (c, some (true, p, r.succ))) 0)]
  iintro ⟨HB, HI, ⟨HS0, HR0⟩, ⟨HS1, HR1⟩, HS2, HR2⟩
  isplitl [HB]; · iexact HB
  isplitl [HI]; · iexact HI
  isplitl [HS0 HS1 HS2]
  · isplitl [HS0]; · iexact HS0
    isplitl [HS1] <;> iassumption
  isplitl [HR0]; · iexact HR0
  isplitl [HR1] <;> iassumption

omit [FloatOps F] in
/-- With a fact that may be used again and again, each member of a family becomes another. -/
theorem bigSep_using {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The idle cells close at zero: nothing was ever due there. -/
theorem idle_close (I : Ins F) (K : Dev nD × Cell → ℕ) (c : Dev nD) :
    iprop(records I K ∗ idles c) ⊢ |={Set.univ}=> bigSep Finset.univ fun bp : Bool × Fin 3 => (semVal (kcell (c, some (bp.1, bp.2, 0))) 0 : sProp 𝕄) := by
  unfold idles
  refine (bigSep_using (R := records I K) (Ψ := fun bp : Bool × Fin 3 => iprop(|={Set.univ}=> semVal (kcell (c, some (bp.1, bp.2, 0))) 0)) fun bp _ => ?_).trans
    (bigSep_fupd _ _)
  exact (sep_mono_left (rec_inv I K (c, some (bp.1, bp.2, 0)))).trans
    (Rounds.cell_close ER (sched I) (Set.mem_univ _) (fun h => h) (R := 0) (duties_idle I c bp.1 bp.2))

/-- What the body ends with. -/
def bodyPost (c : Dev nD) : sProp 𝕄 :=
  iprop((closed c ∗ scratch c) ∗ (dats m ρ 0 c).owesAt () t0_0.succ ∗ (stgPts c cc0_stg0_0 ((insOf m ρ).x c) ∗ stgPts c cc0_stg1_0 ((insOf m ρ).a0 c)
    ∗ stgPts c cc0_stg2_0 ((insOf m ρ).b0 c) ∗ stgPts c cc0_stg3_0 ((insOf m ρ).a1 c) ∗ stgPts c cc0_stg4_0 ((insOf m ρ).b1 c)
    ∗ stgPts c cc0_stg5_0 ((insOf m ρ).a2 c) ∗ stgPts c cc0_stg6_0 ((insOf m ρ).b2 c) ∗ stgPts c cc0_stg7_0 (outOf (insOf m ρ) c)))

/-- The body, from the launch's share to the closed cells. -/
theorem sound_body (c : Dev nD) (o : Buf (Elt F) ((c : Thread nD τ).loc cc0_stg7_0)) :
    iprop((start m ρ c ∗ scratch c) ∗ (dats m ρ 0 c).owesAt () t0_0.castSucc ∗ staged (insOf m ρ) c ∗ stgPts c cc0_stg7_0 o)
      ⊢ WP c loops fun _ => bodyPost m ρ c := by
  unfold start
  iintro ⟨⟨⟨⟨%K, #HR, Hl⟩, Hc, Hr0, Hr1, Hr2⟩, Hs⟩, Ho, Hin, Hout⟩
  ihave Hl := (linear_split (F := F) c) $$ Hl
  icases Hl with ⟨HaB, Hid, HtB, ⟨HS0, HS1, HS2⟩, ⟨HV0, HV1, HV2⟩, HT0, HT1, HT2⟩
  iapply fupd_wp
  imod (idle_close (insOf m ρ) K c) $$ [Hid] with Hidle
  · isplitr; · iexact HR
    iexact Hid
  imodintro
  iapply (wp_loops (insOf m ρ) K c o fun _ => bodyPost m ρ c)
  isplitr; · iexact HR
  isplitl [HtB Hc HaB]
  · unfold barRes
    isplitl [HtB]; · iexact HtB
    isplitl [Hc] <;> iassumption
  isplitl [HT0 HS0 Hr0 HV0 HT1 HS1 Hr1 HV1 HT2 HS2 Hr2 HV2]
  · isplitl [HT0 HS0 Hr0 HV0]
    · iapply (phase_join (F := F) c 0)
      isplitl [HT0]; · iexact HT0
      isplitl [HS0]; · iexact HS0
      isplitl [Hr0] <;> iassumption
    isplitl [HT1 HS1 Hr1 HV1]
    · iapply (phase_join (F := F) c 1)
      isplitl [HT1]; · iexact HT1
      isplitl [HS1]; · iexact HS1
      isplitl [Hr1] <;> iassumption
    iapply (phase_join (F := F) c 2)
    isplitl [HT2]; · iexact HT2
    isplitl [HS2]; · iexact HS2
    isplitl [Hr2] <;> iassumption
  isplitl [Hs]; · iexact Hs
  isplitl [Hin]; · iexact Hin
  isplitl [Hout]; · iexact Hout
  isplitl [Ho]
  · unfold ow Dat.owesAt Pipeline.owesWithin
    icases Ho with ⟨%W, -, Ho⟩
    iexists W; iexact Ho
  iintro ⟨HzB, ⟨He0, He1, He2⟩, Hs, Hin, Hout, Ho⟩
  unfold bodyPost
  isplitl [HzB Hidle He0 He1 He2 Hs]
  · isplitr [Hs]
    · iapply (closed_join (F := F) c)
      isplitl [HzB]; · iexact HzB
      isplitl [Hidle]; · iexact Hidle
      isplitl [He0]; · iexact He0
      isplitl [He1] <;> iassumption
    iexact Hs
  isplitl [Ho]
  · unfold ow Dat.owesAt Pipeline.owesWithin
    icases Ho with ⟨%W, Ho⟩
    iexists W
    isplitr; · ipureintro; exact fun _ _ => Or.inl trivial
    iexact Ho
  unfold staged
  icases Hin with ⟨H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hout

/-- What the region hands the body. -/
def bodyPre (c : Dev nD) : sProp 𝕄 :=
  iprop((start m ρ c ∗ scratch c) ∗ (dats m ρ 0 c).owesAt () t0_0.castSucc
    ∗ (∃ d, stgPts c cc0_stg0_0 ((dats m ρ 0 c).before (0 : Fin 8) t0_0 d)) ∗ (∃ d, stgPts c cc0_stg1_0 ((dats m ρ 0 c).before (1 : Fin 8) t0_0 d))
    ∗ (∃ d, stgPts c cc0_stg2_0 ((dats m ρ 0 c).before (2 : Fin 8) t0_0 d)) ∗ (∃ d, stgPts c cc0_stg3_0 ((dats m ρ 0 c).before (3 : Fin 8) t0_0 d))
    ∗ (∃ d, stgPts c cc0_stg4_0 ((dats m ρ 0 c).before (4 : Fin 8) t0_0 d)) ∗ (∃ d, stgPts c cc0_stg5_0 ((dats m ρ 0 c).before (5 : Fin 8) t0_0 d))
    ∗ (∃ d, stgPts c cc0_stg6_0 ((dats m ρ 0 c).before (6 : Fin 8) t0_0 d)) ∗ (∃ d, stgPts c cc0_stg7_0 ((dats m ρ 0 c).before (7 : Fin 8) t0_0 d)))

/-- The input windows hold their blocks. -/
theorem bodyPre_staged (c : Dev nD) : bodyPre m ρ c ⊢ iprop((start m ρ c ∗ scratch c) ∗ (dats m ρ 0 c).owesAt () t0_0.castSucc
    ∗ staged (insOf m ρ) c ∗ ∃ o, stgPts c cc0_stg7_0 o) := by
  unfold bodyPre staged
  iintro ⟨Hs, Ho, ⟨%d0, H0⟩, ⟨%d1, H1⟩, ⟨%d2, H2⟩, ⟨%d3, H3⟩, ⟨%d4, H4⟩, ⟨%d5, H5⟩, ⟨%d6, H6⟩, ⟨%d7, H7⟩⟩
  isplitl [Hs]; · iexact Hs
  isplitl [Ho]; · iexact Ho
  isplitr [H7]
  · isplitl [H0]; · iapply (Entails.of_eq (congrArg (stgPts c cc0_stg0_0) ((before_in m ρ c (0 : Fin 8) rfl d0).trans (show _ = (insOf m ρ).x c from rfl)))); iexact H0
    isplitl [H1]; · iapply (Entails.of_eq (congrArg (stgPts c cc0_stg1_0) ((before_in m ρ c (1 : Fin 8) rfl d1).trans (show _ = (insOf m ρ).a0 c from rfl)))); iexact H1
    isplitl [H2]; · iapply (Entails.of_eq (congrArg (stgPts c cc0_stg2_0) ((before_in m ρ c (2 : Fin 8) rfl d2).trans (show _ = (insOf m ρ).b0 c from rfl)))); iexact H2
    isplitl [H3]; · iapply (Entails.of_eq (congrArg (stgPts c cc0_stg3_0) ((before_in m ρ c (3 : Fin 8) rfl d3).trans (show _ = (insOf m ρ).a1 c from rfl)))); iexact H3
    isplitl [H4]; · iapply (Entails.of_eq (congrArg (stgPts c cc0_stg4_0) ((before_in m ρ c (4 : Fin 8) rfl d4).trans (show _ = (insOf m ρ).b1 c from rfl)))); iexact H4
    isplitl [H5]; · iapply (Entails.of_eq (congrArg (stgPts c cc0_stg5_0) ((before_in m ρ c (5 : Fin 8) rfl d5).trans (show _ = (insOf m ρ).a2 c from rfl)))); iexact H5
    iapply (Entails.of_eq (congrArg (stgPts c cc0_stg6_0) ((before_in m ρ c (6 : Fin 8) rfl d6).trans (show _ = (insOf m ρ).b2 c from rfl)))); iexact H6
  iexists _; iexact H7

set_option maxRecDepth 8000 in
/-- The body obligation. -/
theorem body_obligation (c : Dev nD) : BodyObligation (dats (F := F) m ρ 0 c) (defs₀ (F := F)) 𝒱₀ () Set.univ := fun t => by
  rw [fin_N0 t]
  rw [bigSep_W, bigSep_W]
  show _ ⊢ wp frame (wpE (defs₀ (F := F)) 𝒱₀ c none) Set.univ
    (cc0_body xM (Memref.isWhole_whole _) a0M (Memref.isWhole_whole _) b0M (Memref.isWhole_whole _) a1M (Memref.isWhole_whole _) b1M (Memref.isWhole_whole _)
      a2M (Memref.isWhole_whole _) b2M (Memref.isWhole_whole _) oM (Memref.isWhole_whole _) accM (Memref.isWhole_whole _) rsM (Memref.isWhole_whole _)
      ptM (Memref.isWhole_whole _) cc0_scratch3 cc0_scratch4) _
  rw [body_eq_loops]
  simp only [owns_whole_eq]
  show bodyPre m ρ c ⊢ wp frame (wpE (defs₀ (F := F)) 𝒱₀ c none) Set.univ loops fun _ => bodyPost m ρ c
  refine (bodyPre_staged m ρ c).trans ?_
  iintro ⟨Hs, Ho, Hin, ⟨%o, Hout⟩⟩
  iapply (sound_body m ρ c o)
  isplitl [Hs]; · iexact Hs
  isplitl [Ho]; · iexact Ho
  isplitl [Hin] <;> iassumption

end Cert.KI

end
-- ==== Proof.KI.Run.lean ====
/-
# The run of the whole program

The launch deals the cells and tokens, the body does the rest, and the final state is read off.
-/
module

public import proofs.«01_k».proof.Proof.KI.Launch

@[expose] public section

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] (m : (ℓ : Loc nD τ sig) → Buf (Elt F) ℓ) (ρ : Dev nD → PrngReg)

local notation "𝕄" => MT nD τ sig Unit (Elt F) ℕ UU ℕ

/-! ## The cells set up -/

/-- The kernel's own semaphores are scoped, distinct, and none of the staging buffers'. -/
theorem ownSemFacts : Pipeline.OwnSemFacts cfg0.spec osem := by decide +kernel
/-- Every window is held at the full share. -/
theorem share_eq (c : Dev nD) (w : Fin cfg0.W) : (dats m ρ 0 c).share w = fullShare := by unfold Dat.share; split <;> rfl

omit [FloatOps F] in
/-- The barrier's semaphore is the one that outlives the kernel. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- The kernel's own semaphores and the barrier's are all the cells. -/
theorem closed_eq (c : Dev nD) : (closed c : sProp 𝕄)
    = iprop(unscopedSems0 c ∗ Pipeline.ownSems0 (Ix := Unit) (Name := ℕ) (U := UU) (Lvl := ℕ) (Val := Elt F) (τ := τ) osem c) := by
  unfold closed Pipeline.ownSems0
  rw [cell_split, unscopedSems0_eq]
  rfl

/-- What the cells of one device are once set up. -/
def made (c : Dev nD) : sProp 𝕄 :=
  iprop((bigSep Finset.univ fun k : Cell => iprop(∃ κ : ℕ, cellInv ER (sched (insOf m ρ)) κ (kcell (c, k))))
    ∗ (bigSep Finset.univ fun k : Cell => iprop(atPos ER (kcell (c, k)) 0 ∅ 0 ∗ reached ER (kcell (c, k)) 0)) ∗ toks c)

/-- The states and the counters at zero make the invariants. -/
theorem invs_alloc (c : Dev nD) :
    iprop(closed c ∗ bigSep Finset.univ fun k : Cell => roundState ER (sched (insOf m ρ)) (kcell (c, k)) 0)
      ⊢ (|={Set.univ}=> bigSep Finset.univ fun k : Cell => iprop(∃ κ : ℕ, cellInv ER (sched (insOf m ρ)) κ (kcell (c, k))) : sProp 𝕄) := by
  unfold closed
  rw [← bigSep_sep']
  exact (bigSep_mono fun k _ => (Rounds.body_intro ER (sched (insOf m ρ)) (kcell (c, k))).trans inv_alloc).trans (bigSep_fupd _ _)

/-- One device's cells set up. -/
theorem core_alloc (c : Dev nD) :
    iprop(Pipeline.ownSems0 (Ix := Unit) (Name := ℕ) (U := UU) (Lvl := ℕ) (Val := Elt F) (τ := τ) osem c ∗ unscopedSems0 c ∗ G (insOf m ρ) c)
      ⊢ |={Set.univ}=> made m ρ c := by
  unfold G made
  iintro ⟨Hos, Hus, Hst, Hat, Htok⟩
  imod (invs_alloc m ρ c) $$ [Hos Hus Hst] with Hinv
  · isplitr [Hst]
    · rw [closed_eq]
      isplitl [Hus] <;> iassumption
    iexact Hst
  imodintro
  isplitl [Hinv]; · iexact Hinv
  isplitl [Hat]; · iexact Hat
  iexact Htok

/-- What a device is handed. -/
theorem ghost_intro (K : Dev nD × Cell → ℕ) (c : Dev nD) : iprop(shared m ρ K ∗ linear c) ⊢ G' m ρ c := by
  unfold G'
  iintro ⟨#HR, Hl⟩
  iexists K
  isplitr; · iexact HR
  iexact Hl

/-- All devices' cells known to all, the tokens dealt round. -/
theorem regroup : (bigSep Finset.univ fun c : Dev nD => made m ρ c) ⊢ bigSep Finset.univ (G' m ρ) := by
  unfold made
  rw [bigSep_sep', bigSep_sep', toks_around,
    ← bigSep_univ_prod (fun ck : Dev nD × Cell => iprop(∃ κ : ℕ, cellInv ER (sched (insOf m ρ)) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched (insOf m ρ)) κ (kcell ck) : sProp 𝕄))) $$ HI
  icases HK with ⟨%K, #HI⟩
  iapply (bigSep_using (R := shared m ρ K) fun c _ => ghost_intro m ρ K c)
  isplitr
  · unfold shared; isplitl; · iexact HI
    iexact HR
  · unfold linear
    rw [bigSep_sep']
    isplitl [Hat]; · iexact Hat
    iexact Htok

/-- The set-up of all devices at once. -/
theorem glob : (bigSep Finset.univ fun c => iprop(Pipeline.ownSems0 (Ix := Unit) (Name := ℕ) (U := UU) (Lvl := ℕ) (Val := Elt F) (τ := τ) osem c ∗ unscopedSems0 c ∗ G (insOf m ρ) c) : sProp 𝕄)
    ⊢ |={Set.univ}=> bigSep Finset.univ (G' m ρ) :=
  ((bigSep_mono fun c _ => core_alloc m ρ c).trans (bigSep_fupd _ _)).trans (BI.fupd_mono (regroup m ρ))

/-! ## In and out of the region -/

/-- What a device holds before the region. -/
theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m ρ c)
      ⊢ |={Set.univ}=> iprop(start m ρ c ∗ emp) := by
  unfold G' start shared records
  iintro ⟨-, #HL, Hcr, -, ⟨%K, ⟨#HI, #HR⟩, Hl⟩⟩
  ihave Hc := (creds (F := F) c) $$ Hcr
  imodintro
  isplitl
  · isplitl [Hl]
    · iexists K
      isplitr
      · isplitr; · iexact HL
        isplitr; · iexact HI
        iexact HR
      iexact Hl
    iexact Hc
  · iempintro

/-- The region starts with that and the scratch buffers. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch
  iintro ⟨Hs, -, Hr⟩
  isplitl [Hs] <;> iassumption

/-- It ends with the semaphores and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed c ∗ scratch c) from rfl, scopedRest0_eq, closed_eq]
  unfold scratch
  iintro ⟨⟨Hu, Ho⟩, Hr⟩
  isplitl [Hu]; · iexact Hu
  isplitl [Ho] <;> iassumption

/-- A staging buffer's semaphore is below everything. -/
theorem role_stage : ∀ (w : Fin cfg0.W) (s : Fin (cfg0.win w).nbuf), role (.dma ((cfg0.win w).sem s)) = .idle := by decide +kernel

/-- Before everything else is owed, everything owed is above level zero. -/
theorem above_owed (c : Dev nD) (t : Fin (cfg0.N + 1)) : Above 0 ((dats m ρ 0 c).owed t) := by
  rcases t with ⟨_ | _, ht⟩
  · exact above_O0 c
  · exact above_zero 0

/-- The staging's waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait c _ 0 _ (by show lvOf (role (.dma ((cfg0.win w).sem s))) ≤ 0; rw [role_stage]; exact Nat.le_refl 0) (above_owed m ρ c t)

/-! ## The run -/

/-- A window's array at the end. -/
def finalA (c : Dev nD) (w : Fin cfg0.W) : Buf (Elt F) ((cfg0.win w).arr.view.loc (c : Thread nD τ)) := (dats m ρ 0 c).arrAt w cfg0.N

/-- Every window's array holds that at the end. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution ends, with every window's array as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O0) (howed₀ := fun _ => rfl) (howedN := fun _ => rfl)
    (L := L) (lv := lv) (hL := L_of_ne) (hwaits := waits m ρ)
    (G := G (insOf m ρ)) (G' := G' m ρ) (u₀ := u₀)
    (hu₀ := by
      unfold u₀
      iintro Hu
      ihave H := (ownU_pair _ _) $$ Hu
      icases H with ⟨HP, HX⟩
      imod (fund_cells (insOf m ρ)) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input window's array holds what it held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-! ## The arrays -/

/-- The arguments as launched, device by device. -/
def argsOf : Ins F where
  x c := m ((c : Thread nD τ).loc main_arg0)
  a0 c := m ((c : Thread nD τ).loc main_arg1)
  b0 c := m ((c : Thread nD τ).loc main_arg4)
  a1 c := m ((c : Thread nD τ).loc main_arg2)
  b1 c := m ((c : Thread nD τ).loc main_arg5)
  a2 c := m ((c : Thread nD τ).loc main_arg3)
  b2 c := m ((c : Thread nD τ).loc main_arg6)

omit [FloatOps F] in
/-- Where a window is its whole array, an element of its block is the array's at the same place. -/
theorem at_zero (w : Pipeline.Window sig grid0) (h : ∀ a, w.index t0_0 a = 0) (y : (w.xblock (grid0.coords t0_0)).Idx) (a : Fin w.shape.rank) :
    ((w.rect t0_0).emb y a : Nat) = y a := Pipeline.Window.rect_emb_val_of_index_zero w t0_0 a (h a) y

omit [FloatOps F] in
/-- Each device stages its arguments whole. -/
theorem insOf_eq : insOf m ρ = argsOf m := by
  unfold insOf argsOf
  congr 1 <;> funext c i
  · exact congrArg (m ((c : Thread nD τ).loc main_arg0)) (funext fun a => Fin.ext (at_zero win0_0 (fun _ => rfl) i a))
  · exact congrArg (m ((c : Thread nD τ).loc main_arg1)) (funext fun a => Fin.ext (at_zero win0_1 (fun _ => rfl) i a))
  · exact congrArg (m ((c : Thread nD τ).loc main_arg4)) (funext fun a => Fin.ext (at_zero win0_2 (fun _ => rfl) i a))
  · exact congrArg (m ((c : Thread nD τ).loc main_arg2)) (funext fun a => Fin.ext (at_zero win0_3 (fun _ => rfl) i a))
  · exact congrArg (m ((c : Thread nD τ).loc main_arg5)) (funext fun a => Fin.ext (at_zero win0_4 (fun _ => rfl) i a))
  · exact congrArg (m ((c : Thread nD τ).loc main_arg3)) (funext fun a => Fin.ext (at_zero win0_5 (fun _ => rfl) i a))
  · exact congrArg (m ((c : Thread nD τ).loc main_arg6)) (funext fun a => Fin.ext (at_zero win0_6 (fun _ => rfl) i a))

/-- The result's array ends as the body left it. -/
theorem finalA_out (c : Dev nD) : finalA m ρ c (7 : Fin 8) = outOf (argsOf m) c := by
  have h : (win0_7.blk t0_0).view.read (Elt F) (finalA m ρ c (7 : Fin 8)) = outOf (argsOf m) c := by
    unfold finalA
    rw [show cfg0.N = (t0_0 : Fin cfg0.N).val + 1 from rfl, (dats m ρ 0 c).arrAt_succ (7 : Fin 8) t0_0,
      show (cfg0.win (7 : Fin 8)).flush t0_0 = true from rfl, if_pos rfl, ← insOf_eq m ρ]
    exact View.read_write_univ _ _
  funext i
  refine Eq.trans ?_ (congrFun h i)
  exact congrArg (finalA m ρ c (7 : Fin 8)) (funext fun a => Fin.ext (at_zero win0_7 (fun _ => rfl) i a).symm)

/-- What the whole run does: each device's result is `outOf` of the arguments, the arguments stay, and every semaphore ends at zero. -/
theorem run_spec : θ_run defs (onTc (τ := τ) (main (F := F))) ⟨m, fun _ => 0, ρ⟩ (fun r =>
    (∀ c : Dev nD, r.2.mem ((c.tc : Thread nD τ).loc main_v1) = outOf (argsOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun _ h => ⟨fun c => ⟨(h.1 c (7 : Fin 8)).trans (finalA_out m ρ c),
    (h.1 c (0 : Fin 8)).trans (finalA_in m ρ c (0 : Fin 8) rfl), (h.1 c (1 : Fin 8)).trans (finalA_in m ρ c (1 : Fin 8) rfl),
    (h.1 c (3 : Fin 8)).trans (finalA_in m ρ c (3 : Fin 8) rfl), (h.1 c (5 : Fin 8)).trans (finalA_in m ρ c (5 : Fin 8) rfl),
    (h.1 c (2 : Fin 8)).trans (finalA_in m ρ c (2 : Fin 8) rfl), (h.1 c (4 : Fin 8)).trans (finalA_in m ρ c (4 : Fin 8) rfl),
    (h.1 c (6 : Fin 8)).trans (finalA_in m ρ c (6 : Fin 8) rfl)⟩, h.2⟩) (run_main m ρ)

end Cert.KI

end
-- ==== Proof.Value.Equation.lean ====
/-
# The two programs return the same values

Over the extended reals a layer is a sum over its 2048 hidden units.  Each device sums over its own 256 of them, and
adding up the eight devices' sums gives the layer.
-/
module

public import proofs.«01_k».proof.Proof.KI.Run
public import proofs.«01_k».proof.Proof.Gen.ReferenceIdeal.Run
public import Idealize.ShloMosaic.Lib.MatmulPlain
public import Idealize.ShloMosaic.Lib.IdealHost
public import Idealize.ShloMosaic.Lib.KernelVsHost
public import Idealize.ShloMosaic.Lib.ValueLayout
public import Idealize.ShloMosaic.Lib.Layout

@[expose] public section

noncomputable section

namespace Cert.Val

open Cert.KI
open Idealize.ShloMosaic Idealize.ShloMosaic.TcCoe Idealize.ShloMosaic.ValueIdx

/-! ## A layer over the extended reals -/

/-- One layer: the row of activations times the first weights, negative hidden units dropped, times the second weights. -/
def layer {K : ℕ} (x : Fin 128 → Fin 128 → EReal) (a : Fin 128 → Fin K → EReal) (b : Fin K → Fin 128 → EReal) :
    Fin 128 → Fin 128 → EReal :=
  fun i j => ∑ k, max (∑ l, x i l * a l k) 0 * b k j

/-- Hidden unit `k` of device `d`, among all of them. -/
def unitAt (d : Fin 8) (k : Fin 256) : Fin 2048 := ⟨d.val * 256 + k.val, by have := d.isLt; have := k.isLt; omega⟩

/-- A sum over all hidden units is the sum over the devices of the sums over each device's own. -/
theorem sum_units (f : Fin 2048 → EReal) : ∑ d : Fin 8, ∑ k : Fin 256, f (unitAt d k) = ∑ k, f k := by
  rw [← Fintype.sum_prod_type', ← (finProdFinEquiv (m := 8) (n := 256)).sum_comp]
  refine Finset.sum_congr rfl fun p _ => congrArg f (Fin.ext ?_)
  simp [unitAt, finProdFinEquiv, Nat.mul_comm, Nat.add_comm]

/-- The devices' partial layers add up to the layer. -/
theorem sum_layer (x : Fin 128 → Fin 128 → EReal) (a : Fin 128 → Fin 2048 → EReal) (b : Fin 2048 → Fin 128 → EReal) (i j : Fin 128) :
    ∑ d : Fin 8, layer x (fun l k => a l (unitAt d k)) (fun k => b (unitAt d k)) i j = layer x a b i j :=
  sum_units fun k => max (∑ l, x i l * a l k) 0 * b k j

/-- A sum over the offsets of the blocks they come from is the sum over the devices. -/
theorem sum_src (c : Dev Cert.KernelIdeal.nD) (f : Dev Cert.KernelIdeal.nD → EReal) : ∑ o : Fin 8, f (src c o) = ∑ d : Fin 8, f d := by
  have h : Function.Bijective (src c) := by revert c; decide +kernel
  exact h.sum_comp f

/-! ## The kernel's layers -/

section Kernel
open Cert.KernelIdeal Cert.KernelIdeal.Gen

/-- A matrix by its two coordinates. -/
def mat {p q : ℕ} (v : (⟨2, ![p, q]⟩ : Shape).Idx → EReal) : Fin p → Fin q → EReal := fun i j => v (ix2 i j)

/-- The kernel's two products of a partial layer, rounded. -/
def prod (x : FVec Ideal S128x128 .bf16) (a : FVec Ideal S128x256 .bf16) (b : FVec Ideal S256x128 .bf16) : FVec Ideal S128x128 .bf16 :=
  truncf .bf16 (matmul dot_S128x256_S256x128_S128x128_1_0_0_1_n_n none
    (truncf .bf16 (maximumf (matmul dot_S128x128_S128x256_S128x256_1_0_0_1_n_n none x a (constant S128x256 .f32 0x00000000#32))
      (broadcast S128x256 (Scalar.ofBits .f32 0x00000000#32))) bitsLt_bf16_f32) b (constant S128x128 .f32 0x00000000#32)) bitsLt_bf16_f32

/-- A plain matrix product from zero, at its two coordinates. -/
theorem matmul_zero_apply {M K N : ℕ} {φ₁ φ₂ : FTy} (lhs : FVec Ideal ⟨2, ![M, K]⟩ φ₁) (rhs : FVec Ideal ⟨2, ![K, N]⟩ φ₂) (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_plain_apply, constant_apply, Ideal.ofBits_zero_f32, zero_add]

/-- The two products are a layer. -/
theorem prod_apply (x : FVec Ideal S128x128 .bf16) (a : FVec Ideal S128x256 .bf16) (b : FVec Ideal S256x128 .bf16) (i j : Fin 128) :
    prod x a b (ix2 i j) = layer (mat x) (mat a) (mat b) i j := by
  refine (matmul_zero_apply _ _ i j).trans (Finset.sum_congr rfl fun k _ => ?_)
  refine congrArg₂ (fun s t : EReal => max s t * b (ix2 k j)) (matmul_zero_apply x a i k) ?_
  exact Ideal.ofBits_zero_f32

/-- The first layer's partial product, at its two coordinates. -/
theorem pay1_apply (x : FVec Ideal S128x128 .bf16) (a : FVec Ideal S128x256 .bf16) (b : FVec Ideal S256x128 .bf16) (i j : Fin 128) :
    k0_pay1 (F := Ideal) x a b (ix4 (0 : Fin 1) (0 : Fin 1) i j) = layer (mat x) (mat a) (mat b) i j := by
  rw [← prod_apply]
  unfold k0_pay1
  simp only [shapeCast_self]
  exact shapeCast_apply _ _ _ _ (by
    rw [Shape.rowMajor_val_four, Shape.rowMajor_val_two]
    show i.val * 128 + j.val = ((0 * 1 + 0) * 128 + i.val) * 128 + j.val
    omega)

/-- The sum of the eight gathered blocks, rounded. -/
def gsum (g : FVec Ideal S1x8x128x128 .bf16) : FVec Ideal S128x128 .bf16 :=
  truncf .bf16 (multiReduction .add [0] S128x128 (extf .f32 (shapeCast S8x128x128 g shapeCasts_S1x8x128x128_S8x128x128) bitsLt_bf16_f32)
    0x00000000#32 reduces_S8x128x128_S128x128 (.inl rfl) rfl) bitsLt_bf16_f32

/-- … at its two coordinates. -/
theorem gsum_apply (g : FVec Ideal S1x8x128x128 .bf16) (i j : Fin 128) :
    gsum g (ix2 i j) = ∑ o : Fin 8, g (ix4 (0 : Fin 1) o i j) := by
  refine (Ideal.multiReduction_add_single _ _ reduces_S8x128x128_S128x128 (.inl rfl) rfl (ix2 i j)).trans ?_
  refine Finset.sum_congr rfl fun o _ => ?_
  have hl : reduces_S8x128x128_S128x128.lift (ix2 i j) o = (ix3 o i j : S8x128x128.Idx) := by
    funext a; fin_cases a <;> rfl
  rw [hl]
  exact shapeCast_1abc_abc_apply g _ o i j

/-- A later layer's partial product. -/
theorem pay2_eq (g : FVec Ideal S1x8x128x128 .bf16) (a : FVec Ideal S128x256 .bf16) (b : FVec Ideal S256x128 .bf16) :
    k0_pay2 g a b = prod (gsum g) a b := by
  unfold k0_pay2
  simp only [shapeCast_self]
  rfl

/-- The last layer's partial product is computed as the one before. -/
theorem pay4_eq (g : FVec Ideal S1x8x128x128 .bf16) (a : FVec Ideal S128x256 .bf16) (b : FVec Ideal S256x128 .bf16) :
    k0_pay4 g a b = prod (gsum g) a b := by
  unfold k0_pay4
  simp only [shapeCast_self]
  rfl

/-- A partial product laid out as a block keeps its entries. -/
theorem pay3_apply (v : FVec Ideal S128x128 .bf16) (i j : Fin 128) : k0_pay3 (F := Ideal) v (ix4 (0 : Fin 1) (0 : Fin 1) i j) = v (ix2 i j) :=
  shapeCast_apply _ _ _ _ (by
    rw [Shape.rowMajor_val_four, Shape.rowMajor_val_two]
    show i.val * 128 + j.val = ((0 * 1 + 0) * 128 + i.val) * 128 + j.val
    omega)

/-- What a device returns: its own rows and the seven others' added. -/
theorem pay5_apply (own : FVec Ideal S16x128 .bf16) (rest : FVec Ideal S7x16x128 .bf16) (i : Fin 16) (j : Fin 128) :
    k0_pay5 (F := Ideal) own rest (ix2 i j) = (own (ix2 i j) : EReal) + ∑ r : Fin 7, (rest (ix3 r i j) : EReal) := by
  refine congrArg ((own (ix2 i j) : EReal) + ·) ((Ideal.multiReduction_add_single _ _ reduces_S7x16x128_S16x128 (.inl rfl) rfl (ix2 i j)).trans ?_)
  refine Finset.sum_congr rfl fun r _ => congrArg rest ?_
  funext a; fin_cases a <;> rfl

variable (I : Ins Ideal)
variable (X : Fin 128 → Fin 128 → EReal) (A0 A1 A2 : Fin 128 → Fin 2048 → EReal) (B0 B1 B2 : Fin 2048 → Fin 128 → EReal)

/-- The devices' arguments are the blocks of these: the activations whole, the weights by hidden units. -/
structure Blocks : Prop where
  x : ∀ c, mat (I.x c) = X
  a0 : ∀ c : Dev nD, mat (I.a0 c) = fun l k => A0 l (unitAt c k)
  b0 : ∀ c : Dev nD, mat (I.b0 c) = fun k => B0 (unitAt c k)
  a1 : ∀ c : Dev nD, mat (I.a1 c) = fun l k => A1 l (unitAt c k)
  b1 : ∀ c : Dev nD, mat (I.b1 c) = fun k => B1 (unitAt c k)
  a2 : ∀ c : Dev nD, mat (I.a2 c) = fun l k => A2 l (unitAt c k)
  b2 : ∀ c : Dev nD, mat (I.b2 c) = fun k => B2 (unitAt c k)

variable {I X A0 A1 A2 B0 B1 B2} (h : Blocks I X A0 A1 A2 B0 B1 B2)
include h

/-- Every device's sum after the first gather is the first layer. -/
theorem gsum0 (c : Dev nD) : mat (gsum (gathered (part0 I) c)) = layer X A0 B0 := by
  funext i j
  refine (gsum_apply _ i j).trans ((sum_src c fun d => part0 I d (ix4 (0 : Fin 1) (0 : Fin 1) i j)).trans ?_)
  rw [← sum_layer]
  refine Finset.sum_congr rfl fun d _ => ?_
  refine (pay1_apply _ _ _ i j).trans ?_
  rw [h.x, h.a0, h.b0]

/-- Every device's sum after the second gather is the second layer. -/
theorem gsum1 (c : Dev nD) : mat (gsum (gathered (part1 I) c)) = layer (layer X A0 B0) A1 B1 := by
  funext i j
  refine (gsum_apply _ i j).trans ((sum_src c fun d => part1 I d (ix4 (0 : Fin 1) (0 : Fin 1) i j)).trans ?_)
  rw [← sum_layer]
  refine Finset.sum_congr rfl fun d _ => ?_
  refine (pay3_apply _ i j).trans ?_
  rw [pay2_eq, prod_apply, gsum0 h, h.a1, h.b1]

/-- A device's last partial product, at its two coordinates. -/
theorem part2_apply (d : Dev nD) (i j : Fin 128) :
    part2 I d (ix2 i j) = layer (layer (layer X A0 B0) A1 B1) (fun l k => A2 l (unitAt d k)) (fun k => B2 (unitAt d k)) i j := by
  unfold part2
  rw [pay4_eq, prod_apply, gsum1 h, h.a2, h.b2]

/-- Device `c` returns its sixteen rows of the last layer. -/
theorem outOf_apply (c : Dev nD) (i : Fin 16) (j : Fin 128) :
    outOf I c (ix2 i j) = layer (layer (layer X A0 B0) A1 B1) A2 B2 (rowAt c i) j := by
  refine (pay5_apply _ _ i j).trans ?_
  have e : (∑ o : Fin 8, part2 I (src c o) (ix2 (rowAt c i) j)) = layer (layer (layer X A0 B0) A1 B1) A2 B2 (rowAt c i) j := by
    refine (sum_src c fun d => part2 I d (ix2 (rowAt c i) j)).trans ?_
    rw [← sum_layer]
    exact Finset.sum_congr rfl fun d _ => part2_apply h d _ _
  refine Eq.trans ?_ ((Fin.sum_univ_succ fun o : Fin 8 => part2 I (src c o) (ix2 (rowAt c i) j)).symm.trans e)
  rw [src_zero]
  rfl

end Kernel

/-! ## The reference's layers -/

section Reference
open Cert.ReferenceIdeal Cert.ReferenceIdeal.Gen

/-- One layer as the reference computes it. -/
def refLayer (x : FVec Ideal S128x128 .bf16) (a : FVec Ideal S128x2048 .bf16) (b : FVec Ideal S2048x128 .bf16) : FVec Ideal S128x128 .bf16 :=
  truncf .bf16 (Host.dotGeneral dot_S128x2048_S2048x128_S128x128_1_0_0_1_n_n none
    (maximumf (truncf .bf16 (Host.dotGeneral dot_S128x128_S128x2048_S128x2048_1_0_0_1_n_n none x a) bitsLt_bf16_f32)
      (broadcastInDim S128x2048 ![] bcast_S_S128x2048 (constant S_ .bf16 0x0000#16))) b) bitsLt_bf16_f32

/-- The reference's matrix product, at its two coordinates. -/
theorem dot_apply {M K N : ℕ} {φ₁ φ₂ : FTy} (lhs : FVec Ideal ⟨2, ![M, K]⟩ φ₁) (rhs : FVec Ideal ⟨2, ![K, N]⟩ φ₂) (r : Fin M) (c : Fin N) :
    Host.dotGeneral (DotDims.plain M K N) none lhs rhs (ix2 r c) = ∑ k : Fin K, lhs (ix2 r k) * rhs (ix2 k c) := by
  rw [← matmul_zero_eq_dotGeneral]
  exact matmul_zero_apply lhs rhs r c

/-- The reference's layer, at its two coordinates. -/
theorem refLayer_apply (x : FVec Ideal S128x128 .bf16) (a : FVec Ideal S128x2048 .bf16) (b : FVec Ideal S2048x128 .bf16) (i j : Fin 128) :
    refLayer x a b (ix2 i j) = layer (mat x) (mat a) (mat b) i j := by
  refine (dot_apply _ _ i j).trans (Finset.sum_congr rfl fun k _ => ?_)
  refine congrArg₂ (fun s t : EReal => max s t * b (ix2 k j)) (dot_apply x a i k) ?_
  exact (broadcastInDim_scalar_apply _ _ _).trans Ideal.ofBits_zero_bf16

/-- The reference's layer as a matrix. -/
theorem mat_refLayer (x : FVec Ideal S128x128 .bf16) (a : FVec Ideal S128x2048 .bf16) (b : FVec Ideal S2048x128 .bf16) :
    mat (refLayer x a b) = layer (mat x) (mat a) (mat b) := funext fun i => funext fun j => refLayer_apply x a b i j

/-- What the reference returns. -/
def refOut (x : FVec Ideal S128x128 .bf16) (a0 : FVec Ideal S128x2048 .bf16) (b0 : FVec Ideal S2048x128 .bf16)
    (a1 : FVec Ideal S128x2048 .bf16) (b1 : FVec Ideal S2048x128 .bf16) (a2 : FVec Ideal S128x2048 .bf16) (b2 : FVec Ideal S2048x128 .bf16) :
    FVec Ideal S128x128 .f32 :=
  extf .f32 (refLayer (refLayer (refLayer x a0 b0) a1 b1) a2 b2) bitsLt_bf16_f32

/-- … at its two coordinates. -/
theorem refOut_apply (x : FVec Ideal S128x128 .bf16) (a0 : FVec Ideal S128x2048 .bf16) (b0 : FVec Ideal S2048x128 .bf16)
    (a1 : FVec Ideal S128x2048 .bf16) (b1 : FVec Ideal S2048x128 .bf16) (a2 : FVec Ideal S128x2048 .bf16) (b2 : FVec Ideal S2048x128 .bf16) (i j : Fin 128) :
    refOut x a0 b0 a1 b1 a2 b2 (ix2 i j) = layer (layer (layer (mat x) (mat a0) (mat b0)) (mat a1) (mat b1)) (mat a2) (mat b2) i j := by
  rw [← mat_refLayer, ← mat_refLayer]
  exact refLayer_apply _ a2 b2 i j

end Reference

/-! ## Blocks -/

/-- A block of columns, as a matrix. -/
theorem mat_cols (c : Fin 8) (v : (⟨2, ![128, 2048]⟩ : Shape).Idx → EReal) :
    mat (Layout.block ⟨2, ![128, 256]⟩ ⟨2, ![128, 2048]⟩ 1 8 c v) = fun l k => mat v l (unitAt c k) := by
  funext l k
  refine congrArg v ?_
  funext a; fin_cases a <;> rfl

/-- A block of rows, as a matrix. -/
theorem mat_rows (c : Fin 8) (v : (⟨2, ![2048, 128]⟩ : Shape).Idx → EReal) :
    mat (Layout.block ⟨2, ![256, 128]⟩ ⟨2, ![2048, 128]⟩ 0 8 c v) = fun k => mat v (unitAt c k) := by
  funext k j
  refine congrArg v ?_
  funext a; fin_cases a <;> rfl

/-- Each device returns its block of rows of what the reference returns. -/
theorem out_eq (I : Ins Ideal) (x : FVec Ideal ⟨2, ![128, 128]⟩ .bf16) (a0 a1 a2 : FVec Ideal ⟨2, ![128, 2048]⟩ .bf16) (b0 b1 b2 : FVec Ideal ⟨2, ![2048, 128]⟩ .bf16)
    (h : Blocks I (mat x) (mat a0) (mat a1) (mat a2) (mat b0) (mat b1) (mat b2)) (c : Fin 8) :
    outOf I c = Layout.block ⟨2, ![16, 128]⟩ ⟨2, ![128, 128]⟩ 0 8 c (refOut x a0 b0 a1 b1 a2 b2) := by
  funext i
  have hi : i = ix2 (i 0) (i 1) := by funext a; fin_cases a <;> rfl
  rw [hi]
  refine (outOf_apply h c (i 0) (i 1)).trans ?_
  refine (refOut_apply x a0 b0 a1 b1 a2 b2 _ _).symm.trans ?_
  refine congrArg (refOut x a0 b0 a1 b1 a2 b2) ?_
  funext a
  refine Fin.ext ?_
  fin_cases a
  · exact congrArg (· + (i 0).val) (Nat.mul_comm 16 c.val)
  · rfl

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KI.Run
public import proofs.«01_k».proof.Proof.KP.Run
public import proofs.«01_k».proof.Proof.Value.Equation
public import Idealize.ShloMosaic.Adequacy
public import Idealize.ShloMosaic.Init

@[expose] public section

noncomputable section

namespace Cert.Proof

open Idealize.ShloMosaic Idealize.SL.Sem
open Cert.Val (mat mat_cols mat_rows out_eq refOut Blocks)

/-- The kernel runs, at the machine's floats: its arguments stay and its semaphores end at zero. -/
theorem frame_kernel : quiescent_Kernel (hKernel := Cert.Kernel.Gen.facts) := fun m g _ =>
  (θ_run _ _ _).mono (fun _ h => ⟨fun c => (h.1 c).2, h.2⟩) (Cert.KP.run_spec (F := Bits) m g)

/-- So does its idealization, over the extended reals. -/
theorem frame_ideal : quiescent_KernelIdeal (hKernelIdeal := Cert.KernelIdeal.Gen.facts) := fun m g _ =>
  (θ_run _ _ _).mono (fun _ h => ⟨fun c => (h.1 c).2, h.2⟩) (Cert.KI.run_spec (F := Ideal) m g)

/-- The reference runs too; it has no semaphores. -/
theorem frame_reference : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- Each device of the idealized kernel returns its sixteen rows of what the reference returns. -/
theorem same_values : algebraic_KernelIdeal_ReferenceIdeal (hKernelIdeal := Cert.KernelIdeal.Gen.facts)
    (hReferenceIdeal := Cert.ReferenceIdeal.Gen.facts) := fun m g m' g' _ h => by
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg4))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg5))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg6)), ?_, ?_⟩
  · refine (θ_run _ _ _).mono (fun _ r c => ⟨(r.1 c).1.trans (out_eq (Cert.KI.argsOf m) _ _ _ _ _ _ _ ?_ c), (r.1 c).2⟩) (Cert.KI.run_spec (F := Ideal) m g)
    exact {
      x := fun c => congrArg mat (h c).1
      a0 := fun c => (congrArg mat (h c).2.1).trans (mat_cols c _)
      a1 := fun c => (congrArg mat (h c).2.2.1).trans (mat_cols c _)
      a2 := fun c => (congrArg mat (h c).2.2.2.1).trans (mat_cols c _)
      b0 := fun c => (congrArg mat (h c).2.2.2.2.1).trans (mat_rows c _)
      b1 := fun c => (congrArg mat (h c).2.2.2.2.2.1).trans (mat_rows c _)
      b2 := fun c => (congrArg mat (h c).2.2.2.2.2.2).trans (mat_rows c _) }
  · exact (θ_run _ _ _).mono (fun _ r => ⟨(r 0).1, (r 0).2⟩) (Cert.ReferenceIdeal.Value.run (F := Ideal) m' g')

/-- All five claims. -/
theorem claim : Cert.Claim := ⟨Cert.Kernel.Gen.facts, Cert.KernelIdeal.Gen.facts, Cert.ReferenceIdeal.Gen.facts,
  frame_kernel, frame_ideal, frame_reference, trivial, same_values⟩

end Cert.Proof

end
